-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S32x256x1024 : Shape := ⟨3, ![32, 256, 1024]⟩
abbrev S12x256x1024 : Shape := ⟨3, ![12, 256, 1024]⟩
abbrev S2x512x1024 : Shape := ⟨3, ![2, 512, 1024]⟩
abbrev S4x512x1024 : Shape := ⟨3, ![4, 512, 1024]⟩
abbrev S2 : Shape := ⟨1, ![2]⟩
abbrev S4 : Shape := ⟨1, ![4]⟩
abbrev S12 : Shape := ⟨1, ![12]⟩
abbrev S10 : Shape := ⟨1, ![10]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S32x256x1024, .bf16⟩
  | .local _ .vmem, ⟨1, _⟩ => ⟨S12x256x1024, .bf16⟩
  | .local _ .vmem, ⟨2, _⟩ => ⟨S2x512x1024, .f32⟩
  | .local _ .vmem, ⟨3, _⟩ => ⟨S2x512x1024, .f32⟩
  | .local _ .vmem, ⟨4, _⟩ => ⟨S4x512x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v30 : BitVec 32 := Scalar.muli v9 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 3 → Nat :=
  let c0_i32_31 : BitVec 32 := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c8_i32 : BitVec 32 := 8#32
  let v46 : BitVec 32 := Scalar.muli v13 c8_i32
  let v47 : BitVec 32 := Scalar.addi v46 c0_i32_30
  let c256_i32 : BitVec 32 := 256#32
  let v48 : BitVec 32 := Scalar.muli v47 c256_i32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c1024_i32 : BitVec 32 := 1024#32
  let v25 : BitVec 32 := Scalar.muli v24 c1024_i32
  ![0, v48.toNat, v25.toNat]
def k0_off2 (d0 : Dev nD) (c0_i32_56 : BitVec 32) (c0_i32_57 : BitVec 32) : Fin 3 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c0_i32_54 : BitVec 32 := 0#32
  let v76 : BitVec 32 := Scalar.addi v13 c0_i32_54
  let c8_i32_55 : BitVec 32 := 8#32
  let v77 : BitVec 32 := Scalar.muli v76 c8_i32_55
  let v78 : BitVec 32 := Scalar.addi v77 c0_i32_56
  let v79 : BitVec 32 := Scalar.addi v78 c0_i32_57
  let c0_i32_65 : BitVec 32 := 0#32
  let c0_i32_66 : BitVec 32 := 0#32
  ![v79.toNat, 0, 0]
def k0_dev4 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v80 : BitVec 32 := Scalar.muli v2 c4_i32_61
  let v81 : BitVec 32 := Scalar.addi c0_i32_62 v80
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_63 : BitVec 32 := 2#32
  let v82 : BitVec 32 := Scalar.muli v9 c2_i32_63
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v84 : BitVec 32 := Scalar.muli v8 c1_i32_64
  let v85 : BitVec 32 := Scalar.addi v83 v84
  v85.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v104 : BitVec 32 := Scalar.muli v2 c4_i32_80
  let v105 : BitVec 32 := Scalar.addi c0_i32_81 v104
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_82 : BitVec 32 := 2#32
  let v106 : BitVec 32 := Scalar.muli v9 c2_i32_82
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v108 : BitVec 32 := Scalar.muli v8 c1_i32_83
  let v109 : BitVec 32 := Scalar.addi v107 v108
  v109.toNat
def k0_dev6 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v143 : BitVec 32 := Scalar.muli v2 c4_i32_113
  let v144 : BitVec 32 := Scalar.addi c0_i32_114 v143
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_115 : BitVec 32 := 2#32
  let v145 : BitVec 32 := Scalar.muli v9 c2_i32_115
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v147 : BitVec 32 := Scalar.muli v8 c1_i32_116
  let v148 : BitVec 32 := Scalar.addi v146 v147
  v148.toNat
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v167 : BitVec 32 := Scalar.muli v2 c4_i32_133
  let v168 : BitVec 32 := Scalar.addi c0_i32_134 v167
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_135 : BitVec 32 := 2#32
  let v169 : BitVec 32 := Scalar.muli v9 c2_i32_135
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v171 : BitVec 32 := Scalar.muli v8 c1_i32_136
  let v172 : BitVec 32 := Scalar.addi v170 v171
  v172.toNat
def k0_dev8 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v206 : BitVec 32 := Scalar.muli v2 c4_i32_165
  let v207 : BitVec 32 := Scalar.addi c0_i32_166 v206
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_167 : BitVec 32 := 2#32
  let v208 : BitVec 32 := Scalar.muli v9 c2_i32_167
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v210 : BitVec 32 := Scalar.muli v8 c1_i32_168
  let v211 : BitVec 32 := Scalar.addi v209 v210
  v211.toNat
def k0_dev9 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v230 : BitVec 32 := Scalar.muli v2 c4_i32_184
  let v231 : BitVec 32 := Scalar.addi c0_i32_185 v230
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_186 : BitVec 32 := 2#32
  let v232 : BitVec 32 := Scalar.muli v9 c2_i32_186
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v234 : BitVec 32 := Scalar.muli v8 c1_i32_187
  let v235 : BitVec 32 := Scalar.addi v233 v234
  v235.toNat
def k0_off3 (d0 : Dev nD) (c4_i32_193 : BitVec 32) : Fin 3 → Nat :=
  let c0_i32_195 : BitVec 32 := 0#32
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c8_i32_192 : BitVec 32 := 8#32
  let v244 : BitVec 32 := Scalar.muli v23 c8_i32_192
  let v245 : BitVec 32 := Scalar.addi v244 c4_i32_193
  let c256_i32_194 : BitVec 32 := 256#32
  let v246 : BitVec 32 := Scalar.muli v245 c256_i32_194
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c1024_i32 : BitVec 32 := 1024#32
  let v25 : BitVec 32 := Scalar.muli v24 c1024_i32
  ![0, v246.toNat, v25.toNat]
def k0_dev10 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v269 : BitVec 32 := Scalar.muli v2 c4_i32_217
  let v270 : BitVec 32 := Scalar.addi c0_i32_218 v269
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_219 : BitVec 32 := 2#32
  let v271 : BitVec 32 := Scalar.muli v9 c2_i32_219
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v273 : BitVec 32 := Scalar.muli v8 c1_i32_220
  let v274 : BitVec 32 := Scalar.addi v272 v273
  v274.toNat
def k0_dev11 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v293 : BitVec 32 := Scalar.muli v2 c4_i32_236
  let v294 : BitVec 32 := Scalar.addi c0_i32_237 v293
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_238 : BitVec 32 := 2#32
  let v295 : BitVec 32 := Scalar.muli v9 c2_i32_238
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v297 : BitVec 32 := Scalar.muli v8 c1_i32_239
  let v298 : BitVec 32 := Scalar.addi v296 v297
  v298.toNat
def k0_off4 (d0 : Dev nD) (c4_i32_264 : BitVec 32) (c0_i32_265 : BitVec 32) : Fin 3 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c0_i32_262 : BitVec 32 := 0#32
  let v328 : BitVec 32 := Scalar.addi v23 c0_i32_262
  let c8_i32_263 : BitVec 32 := 8#32
  let v329 : BitVec 32 := Scalar.muli v328 c8_i32_263
  let v330 : BitVec 32 := Scalar.addi v329 c4_i32_264
  let v331 : BitVec 32 := Scalar.addi v330 c0_i32_265
  let c0_i32_273 : BitVec 32 := 0#32
  let c0_i32_274 : BitVec 32 := 0#32
  ![v331.toNat, 0, 0]
def k0_dev12 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v332 : BitVec 32 := Scalar.muli v2 c4_i32_269
  let v333 : BitVec 32 := Scalar.addi c0_i32_270 v332
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_271 : BitVec 32 := 2#32
  let v334 : BitVec 32 := Scalar.muli v9 c2_i32_271
  let v335 : BitVec 32 := Scalar.addi v333 v334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v336 : BitVec 32 := Scalar.muli v8 c1_i32_272
  let v337 : BitVec 32 := Scalar.addi v335 v336
  v337.toNat
def k0_dev13 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v356 : BitVec 32 := Scalar.muli v2 c4_i32_288
  let v357 : BitVec 32 := Scalar.addi c0_i32_289 v356
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_290 : BitVec 32 := 2#32
  let v358 : BitVec 32 := Scalar.muli v9 c2_i32_290
  let v359 : BitVec 32 := Scalar.addi v357 v358
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_291 : BitVec 32 := 1#32
  let v360 : BitVec 32 := Scalar.muli v8 c1_i32_291
  let v361 : BitVec 32 := Scalar.addi v359 v360
  v361.toNat
def k0_dev14 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v386 : BitVec 32 := Scalar.muli v2 c4_i32_312
  let v387 : BitVec 32 := Scalar.addi c0_i32_313 v386
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_314 : BitVec 32 := 2#32
  let v388 : BitVec 32 := Scalar.muli v9 c2_i32_314
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v390 : BitVec 32 := Scalar.muli v8 c1_i32_315
  let v391 : BitVec 32 := Scalar.addi v389 v390
  v391.toNat
def k0_dev15 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_331 : BitVec 32 := 4#32
  let v410 : BitVec 32 := Scalar.muli v2 c4_i32_331
  let v411 : BitVec 32 := Scalar.addi c0_i32_332 v410
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_333 : BitVec 32 := 2#32
  let v412 : BitVec 32 := Scalar.muli v9 c2_i32_333
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v414 : BitVec 32 := Scalar.muli v8 c1_i32_334
  let v415 : BitVec 32 := Scalar.addi v413 v414
  v415.toNat
def k0_off5 (d0 : Dev nD) (c0_i32_340 : BitVec 32) : Fin 3 → Nat :=
  let c0_i32_342 : BitVec 32 := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c8_i32_339 : BitVec 32 := 8#32
  let v424 : BitVec 32 := Scalar.muli v13 c8_i32_339
  let v425 : BitVec 32 := Scalar.addi v424 c0_i32_340
  let c256_i32_341 : BitVec 32 := 256#32
  let v426 : BitVec 32 := Scalar.muli v425 c256_i32_341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_15 : BitVec 32 := 1024#32
  let v26 : BitVec 32 := Scalar.muli v5 c1024_i32_15
  ![0, v426.toNat, v26.toNat]
def k0_off6 (d0 : Dev nD) (c0_i32_367 : BitVec 32) : Fin 3 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c8_i32_366 : BitVec 32 := 8#32
  let v454 : BitVec 32 := Scalar.muli v13 c8_i32_366
  let v455 : BitVec 32 := Scalar.addi v454 c0_i32_367
  let c0_i32_374 : BitVec 32 := 0#32
  let c0_i32_375 : BitVec 32 := 0#32
  ![v455.toNat, 0, 0]
def k0_dev16 (d0 : Dev nD) : Nat :=
  let c0_i32_371 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_370 : BitVec 32 := 4#32
  let v456 : BitVec 32 := Scalar.muli v10 c4_i32_370
  let v457 : BitVec 32 := Scalar.addi c0_i32_371 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_372 : BitVec 32 := 2#32
  let v458 : BitVec 32 := Scalar.muli v5 c2_i32_372
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_373 : BitVec 32 := 1#32
  let v460 : BitVec 32 := Scalar.muli v8 c1_i32_373
  let v461 : BitVec 32 := Scalar.addi v459 v460
  v461.toNat
def k0_dev17 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v470 : BitVec 32 := Scalar.muli v2 c4_i32_380
  let v471 : BitVec 32 := Scalar.addi c0_i32_381 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_382 : BitVec 32 := 2#32
  let v472 : BitVec 32 := Scalar.muli v5 c2_i32_382
  let v473 : BitVec 32 := Scalar.addi v471 v472
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_383 : BitVec 32 := 1#32
  let v474 : BitVec 32 := Scalar.muli v11 c1_i32_383
  let v475 : BitVec 32 := Scalar.addi v473 v474
  v475.toNat
def k0_dev18 (d0 : Dev nD) : Nat :=
  let c0_i32_404 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_403 : BitVec 32 := 4#32
  let v498 : BitVec 32 := Scalar.muli v10 c4_i32_403
  let v499 : BitVec 32 := Scalar.addi c0_i32_404 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v500 : BitVec 32 := Scalar.muli v5 c2_i32_405
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v502 : BitVec 32 := Scalar.muli v8 c1_i32_406
  let v503 : BitVec 32 := Scalar.addi v501 v502
  v503.toNat
def k0_dev19 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v512 : BitVec 32 := Scalar.muli v2 c4_i32_413
  let v513 : BitVec 32 := Scalar.addi c0_i32_414 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v514 : BitVec 32 := Scalar.muli v5 c2_i32_415
  let v515 : BitVec 32 := Scalar.addi v513 v514
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_416 : BitVec 32 := 1#32
  let v516 : BitVec 32 := Scalar.muli v11 c1_i32_416
  let v517 : BitVec 32 := Scalar.addi v515 v516
  v517.toNat
def k0_off7 (d0 : Dev nD) (c0_i32_427 : BitVec 32) (c0_i32_431 : BitVec 32) : Fin 3 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c8_i32_426 : BitVec 32 := 8#32
  let v532 : BitVec 32 := Scalar.muli v13 c8_i32_426
  let v533 : BitVec 32 := Scalar.addi v532 c0_i32_427
  let v537 : BitVec 32 := Scalar.addi v533 c0_i32_431
  let v538 : Index := Scalar.indexCast v537
  let c0_432 : Index := 0#32
  let c0_433 : Index := 0#32
  ![v538.toNat, 0, 0]
def k0_off8 (d0 : Dev nD) (c0_i32_427 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c8_i32_426 : BitVec 32 := 8#32
  let v532 : BitVec 32 := Scalar.muli v13 c8_i32_426
  let v533 : BitVec 32 := Scalar.addi v532 c0_i32_427
  let c256_i32_446 : BitVec 32 := 256#32
  let v556 : BitVec 32 := Scalar.muli v533 c256_i32_446
  let c0_i32_449 : BitVec 32 := 0#32
  ![v556.toNat, 0]
def k0_dev20 (d0 : Dev nD) : Nat :=
  let c0_i32_476 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_475 : BitVec 32 := 4#32
  let v585 : BitVec 32 := Scalar.muli v10 c4_i32_475
  let v586 : BitVec 32 := Scalar.addi c0_i32_476 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_477 : BitVec 32 := 2#32
  let v587 : BitVec 32 := Scalar.muli v5 c2_i32_477
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v589 : BitVec 32 := Scalar.muli v8 c1_i32_478
  let v590 : BitVec 32 := Scalar.addi v588 v589
  v590.toNat
def k0_dev21 (d0 : Dev nD) : Nat :=
  let c0_i32_486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_485 : BitVec 32 := 4#32
  let v599 : BitVec 32 := Scalar.muli v2 c4_i32_485
  let v600 : BitVec 32 := Scalar.addi c0_i32_486 v599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_487 : BitVec 32 := 2#32
  let v601 : BitVec 32 := Scalar.muli v5 c2_i32_487
  let v602 : BitVec 32 := Scalar.addi v600 v601
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_488 : BitVec 32 := 1#32
  let v603 : BitVec 32 := Scalar.muli v11 c1_i32_488
  let v604 : BitVec 32 := Scalar.addi v602 v603
  v604.toNat
def k0_dev22 (d0 : Dev nD) : Nat :=
  let c0_i32_509 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_508 : BitVec 32 := 4#32
  let v627 : BitVec 32 := Scalar.muli v10 c4_i32_508
  let v628 : BitVec 32 := Scalar.addi c0_i32_509 v627
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v629 : BitVec 32 := Scalar.muli v5 c2_i32_510
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_511 : BitVec 32 := 1#32
  let v631 : BitVec 32 := Scalar.muli v8 c1_i32_511
  let v632 : BitVec 32 := Scalar.addi v630 v631
  v632.toNat
def k0_dev23 (d0 : Dev nD) : Nat :=
  let c0_i32_519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_518 : BitVec 32 := 4#32
  let v641 : BitVec 32 := Scalar.muli v2 c4_i32_518
  let v642 : BitVec 32 := Scalar.addi c0_i32_519 v641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_520 : BitVec 32 := 2#32
  let v643 : BitVec 32 := Scalar.muli v5 c2_i32_520
  let v644 : BitVec 32 := Scalar.addi v642 v643
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_521 : BitVec 32 := 1#32
  let v645 : BitVec 32 := Scalar.muli v11 c1_i32_521
  let v646 : BitVec 32 := Scalar.addi v644 v645
  v646.toNat
def k0_dev24 (d0 : Dev nD) : Nat :=
  let c0_i32_581 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_580 : BitVec 32 := 4#32
  let v714 : BitVec 32 := Scalar.muli v10 c4_i32_580
  let v715 : BitVec 32 := Scalar.addi c0_i32_581 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v716 : BitVec 32 := Scalar.muli v5 c2_i32_582
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_583 : BitVec 32 := 1#32
  let v718 : BitVec 32 := Scalar.muli v8 c1_i32_583
  let v719 : BitVec 32 := Scalar.addi v717 v718
  v719.toNat
def k0_dev25 (d0 : Dev nD) : Nat :=
  let c0_i32_591 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_590 : BitVec 32 := 4#32
  let v728 : BitVec 32 := Scalar.muli v2 c4_i32_590
  let v729 : BitVec 32 := Scalar.addi c0_i32_591 v728
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_592 : BitVec 32 := 2#32
  let v730 : BitVec 32 := Scalar.muli v5 c2_i32_592
  let v731 : BitVec 32 := Scalar.addi v729 v730
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_593 : BitVec 32 := 1#32
  let v732 : BitVec 32 := Scalar.muli v11 c1_i32_593
  let v733 : BitVec 32 := Scalar.addi v731 v732
  v733.toNat
def k0_dev26 (d0 : Dev nD) : Nat :=
  let c0_i32_614 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_613 : BitVec 32 := 4#32
  let v756 : BitVec 32 := Scalar.muli v10 c4_i32_613
  let v757 : BitVec 32 := Scalar.addi c0_i32_614 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v758 : BitVec 32 := Scalar.muli v5 c2_i32_615
  let v759 : BitVec 32 := Scalar.addi v757 v758
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_616 : BitVec 32 := 1#32
  let v760 : BitVec 32 := Scalar.muli v8 c1_i32_616
  let v761 : BitVec 32 := Scalar.addi v759 v760
  v761.toNat
def k0_dev27 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v770 : BitVec 32 := Scalar.muli v2 c4_i32_623
  let v771 : BitVec 32 := Scalar.addi c0_i32_624 v770
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v772 : BitVec 32 := Scalar.muli v5 c2_i32_625
  let v773 : BitVec 32 := Scalar.addi v771 v772
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_626 : BitVec 32 := 1#32
  let v774 : BitVec 32 := Scalar.muli v11 c1_i32_626
  let v775 : BitVec 32 := Scalar.addi v773 v774
  v775.toNat
def k0_dev28 (d0 : Dev nD) : Nat :=
  let c0_i32_678 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_677 : BitVec 32 := 4#32
  let v834 : BitVec 32 := Scalar.muli v10 c4_i32_677
  let v835 : BitVec 32 := Scalar.addi c0_i32_678 v834
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_679 : BitVec 32 := 2#32
  let v836 : BitVec 32 := Scalar.muli v5 c2_i32_679
  let v837 : BitVec 32 := Scalar.addi v835 v836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_680 : BitVec 32 := 1#32
  let v838 : BitVec 32 := Scalar.muli v8 c1_i32_680
  let v839 : BitVec 32 := Scalar.addi v837 v838
  v839.toNat
def k0_dev29 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v848 : BitVec 32 := Scalar.muli v2 c4_i32_687
  let v849 : BitVec 32 := Scalar.addi c0_i32_688 v848
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_689 : BitVec 32 := 2#32
  let v850 : BitVec 32 := Scalar.muli v5 c2_i32_689
  let v851 : BitVec 32 := Scalar.addi v849 v850
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_690 : BitVec 32 := 1#32
  let v852 : BitVec 32 := Scalar.muli v11 c1_i32_690
  let v853 : BitVec 32 := Scalar.addi v851 v852
  v853.toNat
def k0_dev30 (d0 : Dev nD) : Nat :=
  let c0_i32_711 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_710 : BitVec 32 := 4#32
  let v876 : BitVec 32 := Scalar.muli v10 c4_i32_710
  let v877 : BitVec 32 := Scalar.addi c0_i32_711 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_712 : BitVec 32 := 2#32
  let v878 : BitVec 32 := Scalar.muli v5 c2_i32_712
  let v879 : BitVec 32 := Scalar.addi v877 v878
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_713 : BitVec 32 := 1#32
  let v880 : BitVec 32 := Scalar.muli v8 c1_i32_713
  let v881 : BitVec 32 := Scalar.addi v879 v880
  v881.toNat
def k0_dev31 (d0 : Dev nD) : Nat :=
  let c0_i32_721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_720 : BitVec 32 := 4#32
  let v890 : BitVec 32 := Scalar.muli v2 c4_i32_720
  let v891 : BitVec 32 := Scalar.addi c0_i32_721 v890
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_722 : BitVec 32 := 2#32
  let v892 : BitVec 32 := Scalar.muli v5 c2_i32_722
  let v893 : BitVec 32 := Scalar.addi v891 v892
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_723 : BitVec 32 := 1#32
  let v894 : BitVec 32 := Scalar.muli v11 c1_i32_723
  let v895 : BitVec 32 := Scalar.addi v893 v894
  v895.toNat
def k0_off9 (d0 : Dev nD) (c0_i32_760 : BitVec 32) : Fin 3 → Nat :=
  let c0_i32_762 : BitVec 32 := 0#32
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v16 : BitVec 32 := Scalar.addi v14 v15
  let c8_i32_759 : BitVec 32 := 8#32
  let v940 : BitVec 32 := Scalar.muli v16 c8_i32_759
  let v941 : BitVec 32 := Scalar.addi v940 c0_i32_760
  let c256_i32_761 : BitVec 32 := 256#32
  let v942 : BitVec 32 := Scalar.muli v941 c256_i32_761
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_15 : BitVec 32 := 1024#32
  let v26 : BitVec 32 := Scalar.muli v5 c1024_i32_15
  ![0, v942.toNat, v26.toNat]
def k0_off10 (d0 : Dev nD) (c0_i32_768 : BitVec 32) : Fin 3 → Nat :=
  let c0_i32_770 : BitVec 32 := 0#32
  let c2_i32_10 : BitVec 32 := 2#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.muli c2_i32_10 v17
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.addi v18 v2
  let c8_i32_767 : BitVec 32 := 8#32
  let v949 : BitVec 32 := Scalar.muli v19 c8_i32_767
  let v950 : BitVec 32 := Scalar.addi v949 c0_i32_768
  let c256_i32_769 : BitVec 32 := 256#32
  let v951 : BitVec 32 := Scalar.muli v950 c256_i32_769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_15 : BitVec 32 := 1024#32
  let v26 : BitVec 32 := Scalar.muli v5 c1024_i32_15
  ![0, v951.toNat, v26.toNat]
def k0_off11 (d0 : Dev nD) (c0_i32_776 : BitVec 32) : Fin 3 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v16 : BitVec 32 := Scalar.addi v14 v15
  let c8_i32_775 : BitVec 32 := 8#32
  let v958 : BitVec 32 := Scalar.muli v16 c8_i32_775
  let v959 : BitVec 32 := Scalar.addi v958 c0_i32_776
  let c0_i32_783 : BitVec 32 := 0#32
  let c0_i32_784 : BitVec 32 := 0#32
  ![v959.toNat, 0, 0]
def k0_off12 (d0 : Dev nD) (c0_i32_810 : BitVec 32) (c0_i32_814 : BitVec 32) : Fin 3 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v16 : BitVec 32 := Scalar.addi v14 v15
  let c8_i32_809 : BitVec 32 := 8#32
  let v997 : BitVec 32 := Scalar.muli v16 c8_i32_809
  let v998 : BitVec 32 := Scalar.addi v997 c0_i32_810
  let v1002 : BitVec 32 := Scalar.addi v998 c0_i32_814
  let v1003 : Index := Scalar.indexCast v1002
  let c0_815 : Index := 0#32
  let c0_816 : Index := 0#32
  ![v1003.toNat, 0, 0]
def k0_off13 (d0 : Dev nD) (c0_i32_810 : BitVec 32) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v16 : BitVec 32 := Scalar.addi v14 v15
  let c8_i32_809 : BitVec 32 := 8#32
  let v997 : BitVec 32 := Scalar.muli v16 c8_i32_809
  let v998 : BitVec 32 := Scalar.addi v997 c0_i32_810
  let c256_i32_829 : BitVec 32 := 256#32
  let v1021 : BitVec 32 := Scalar.muli v998 c256_i32_829
  let c0_i32_832 : BitVec 32 := 0#32
  ![v1021.toNat, 0]
def k0_off14 (d0 : Dev nD) (c0_i32_844 : BitVec 32) : Fin 3 → Nat :=
  let c2_i32_10 : BitVec 32 := 2#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.muli c2_i32_10 v17
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.addi v18 v2
  let c8_i32_843 : BitVec 32 := 8#32
  let v1036 : BitVec 32 := Scalar.muli v19 c8_i32_843
  let v1037 : BitVec 32 := Scalar.addi v1036 c0_i32_844
  let c0_i32_851 : BitVec 32 := 0#32
  let c0_i32_852 : BitVec 32 := 0#32
  ![v1037.toNat, 0, 0]
def k0_dev32 (d0 : Dev nD) : Nat :=
  let c0_i32_858 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_857 : BitVec 32 := 4#32
  let v1050 : BitVec 32 := Scalar.muli v10 c4_i32_857
  let v1051 : BitVec 32 := Scalar.addi c0_i32_858 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v1052 : BitVec 32 := Scalar.muli v5 c2_i32_859
  let v1053 : BitVec 32 := Scalar.addi v1051 v1052
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_860 : BitVec 32 := 1#32
  let v1054 : BitVec 32 := Scalar.muli v8 c1_i32_860
  let v1055 : BitVec 32 := Scalar.addi v1053 v1054
  v1055.toNat
def k0_dev33 (d0 : Dev nD) : Nat :=
  let c0_i32_880 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_879 : BitVec 32 := 4#32
  let v1078 : BitVec 32 := Scalar.muli v10 c4_i32_879
  let v1079 : BitVec 32 := Scalar.addi c0_i32_880 v1078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_881 : BitVec 32 := 2#32
  let v1080 : BitVec 32 := Scalar.muli v5 c2_i32_881
  let v1081 : BitVec 32 := Scalar.addi v1079 v1080
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_882 : BitVec 32 := 1#32
  let v1082 : BitVec 32 := Scalar.muli v8 c1_i32_882
  let v1083 : BitVec 32 := Scalar.addi v1081 v1082
  v1083.toNat
def k0_off15 (d0 : Dev nD) (c0_i32_898 : BitVec 32) (c0_i32_902 : BitVec 32) : Fin 3 → Nat :=
  let c2_i32_10 : BitVec 32 := 2#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.muli c2_i32_10 v17
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.addi v18 v2
  let c8_i32_897 : BitVec 32 := 8#32
  let v1103 : BitVec 32 := Scalar.muli v19 c8_i32_897
  let v1104 : BitVec 32 := Scalar.addi v1103 c0_i32_898
  let v1108 : BitVec 32 := Scalar.addi v1104 c0_i32_902
  let v1109 : Index := Scalar.indexCast v1108
  let c0_903 : Index := 0#32
  let c0_904 : Index := 0#32
  ![v1109.toNat, 0, 0]
def k0_off16 (d0 : Dev nD) (c0_i32_898 : BitVec 32) : Fin 2 → Nat :=
  let c2_i32_10 : BitVec 32 := 2#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.muli c2_i32_10 v17
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.addi v18 v2
  let c8_i32_897 : BitVec 32 := 8#32
  let v1103 : BitVec 32 := Scalar.muli v19 c8_i32_897
  let v1104 : BitVec 32 := Scalar.addi v1103 c0_i32_898
  let c256_i32_917 : BitVec 32 := 256#32
  let v1127 : BitVec 32 := Scalar.muli v1104 c256_i32_917
  let c0_i32_920 : BitVec 32 := 0#32
  ![v1127.toNat, 0]
def k0_dev34 (d0 : Dev nD) : Nat :=
  let c0_i32_946 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_945 : BitVec 32 := 4#32
  let v1156 : BitVec 32 := Scalar.muli v2 c4_i32_945
  let v1157 : BitVec 32 := Scalar.addi c0_i32_946 v1156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_947 : BitVec 32 := 2#32
  let v1158 : BitVec 32 := Scalar.muli v5 c2_i32_947
  let v1159 : BitVec 32 := Scalar.addi v1157 v1158
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_948 : BitVec 32 := 1#32
  let v1160 : BitVec 32 := Scalar.muli v11 c1_i32_948
  let v1161 : BitVec 32 := Scalar.addi v1159 v1160
  v1161.toNat
def k0_dev35 (d0 : Dev nD) : Nat :=
  let c0_i32_968 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_967 : BitVec 32 := 4#32
  let v1184 : BitVec 32 := Scalar.muli v2 c4_i32_967
  let v1185 : BitVec 32 := Scalar.addi c0_i32_968 v1184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_969 : BitVec 32 := 2#32
  let v1186 : BitVec 32 := Scalar.muli v5 c2_i32_969
  let v1187 : BitVec 32 := Scalar.addi v1185 v1186
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_970 : BitVec 32 := 1#32
  let v1188 : BitVec 32 := Scalar.muli v11 c1_i32_970
  let v1189 : BitVec 32 := Scalar.addi v1187 v1188
  v1189.toNat
def k0_off17 (d0 : Dev nD) (c4_i32_1344 : BitVec 32) : Fin 3 → Nat :=
  let c0_i32_1346 : BitVec 32 := 0#32
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c8_i32_1343 : BitVec 32 := 8#32
  let v1620 : BitVec 32 := Scalar.muli v23 c8_i32_1343
  let v1621 : BitVec 32 := Scalar.addi v1620 c4_i32_1344
  let c256_i32_1345 : BitVec 32 := 256#32
  let v1622 : BitVec 32 := Scalar.muli v1621 c256_i32_1345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_15 : BitVec 32 := 1024#32
  let v26 : BitVec 32 := Scalar.muli v5 c1024_i32_15
  ![0, v1622.toNat, v26.toNat]
def k0_off18 (d0 : Dev nD) (c4_i32_1392 : BitVec 32) (c0_i32_1396 : BitVec 32) : Fin 3 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c8_i32_1391 : BitVec 32 := 8#32
  let v1673 : BitVec 32 := Scalar.muli v23 c8_i32_1391
  let v1674 : BitVec 32 := Scalar.addi v1673 c4_i32_1392
  let v1678 : BitVec 32 := Scalar.addi v1674 c0_i32_1396
  let v1679 : Index := Scalar.indexCast v1678
  let c0_1397 : Index := 0#32
  let c0_1398 : Index := 0#32
  ![v1679.toNat, 0, 0]
def k0_off19 (d0 : Dev nD) (c4_i32_1392 : BitVec 32) : Fin 2 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c8_i32_1391 : BitVec 32 := 8#32
  let v1673 : BitVec 32 := Scalar.muli v23 c8_i32_1391
  let v1674 : BitVec 32 := Scalar.addi v1673 c4_i32_1392
  let c256_i32_1411 : BitVec 32 := 256#32
  let v1697 : BitVec 32 := Scalar.muli v1674 c256_i32_1411
  let c0_i32_1414 : BitVec 32 := 0#32
  ![v1697.toNat, 0]
def k0_off20 (d0 : Dev nD) (c2_i32_1492 : BitVec 32) : Fin 3 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v23 : BitVec 32 := Scalar.addi v21 v22
  let c8_i32_1491 : BitVec 32 := 8#32
  let v1786 : BitVec 32 := Scalar.muli v23 c8_i32_1491
  let v1787 : BitVec 32 := Scalar.addi v1786 c2_i32_1492
  let c0_i32_1499 : BitVec 32 := 0#32
  let c0_i32_1500 : BitVec 32 := 0#32
  ![v1787.toNat, 0, 0]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .bf16⟩
  | .hbm, ⟨2, _⟩ => ⟨S2x8192x2048, .f32⟩
  | .hbm, ⟨3, _⟩ => ⟨S_, .f32⟩
  | .hbm, ⟨4, _⟩ => ⟨S8192x2048, .f32⟩
  | .hbm, ⟨5, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Prog.lean ====
/-
  The kernel's body as a list of instructions.  The body is one straight line of 400 memory
  operations; each is an instance of one of eleven kinds (`Ins`), and `run` gives the operations an
  instruction stands for, its windows and semaphores looked up by index.  `body_eq`: the printed body
  is the run of the list `prog`.
-/
module

public import proofs.«01_k».proof.Proof.Gen.KernelIdeal.Skeleton
public import Idealize.ShloMosaic.Lib.Pipeline.Regions

@[expose] public section

noncomputable section

namespace Cert.RS

open Cert.KernelIdeal Cert.KernelIdeal.Gen
open Idealize.ShloMosaic Idealize.SL.Sem

variable {F : FTy → Type} [FloatOps F]

/-! ## Places and chunk numbers -/

/-- The quarter of the rows device `d` reduces first, by its place on the axes `x` and `z`. -/
def qme (d : Nat) : Nat := 2 * (d % 2) + d / 4
/-- Its neighbour's along `x`, -/
def qxn (d : Nat) : Nat := 2 * (d % 2) + (1 - d / 4)
/-- along `z`, -/
def qzn (d : Nat) : Nat := 2 * (1 - d % 2) + d / 4
/-- and the one diagonally across. -/
def qdg (d : Nat) : Nat := 2 * (1 - d % 2) + (1 - d / 4)

/-- The receive slots of a device: 0–11 filled from along `y`, 12–21 along `x`, 22–31 along `z`.
    `jr a d` is the chunk of `rbuf` that slot `a` of device `d` is. -/
def jr (a : Nat) (d : Nat) : Nat :=
  bif Nat.blt a 8 then 8 * qme d + a else
  bif Nat.blt a 12 then 8 * qdg d + 4 + (a - 8) else
  bif Nat.blt a 20 then 8 * qxn d + (a - 12) else
  bif Nat.blt a 22 then 8 * qdg d + (a - 20) else
  bif Nat.blt a 30 then 8 * qzn d + (a - 22) else 8 * qdg d + 2 + (a - 30)

/-- The neighbour along axis 0 (`y`), 1 (`x`), 2 (`z`), as a number. -/
def nbrN (k : Nat) (d : Nat) : Nat :=
  bif Nat.beq k 0 then 4 * (d / 4) + 2 * (1 - d / 2 % 2) + d % 2 else
  bif Nat.beq k 1 then 4 * (1 - d / 4) + 2 * (d / 2 % 2) + d % 2 else
  4 * (d / 4) + 2 * (d / 2 % 2) + (1 - d % 2)
/-- A neighbour's number is a device's. -/
theorem nbrN_lt : ∀ (k : Fin 3) (d : Dev nD), nbrN k.val d.val < nD := by decide +kernel
/-- The neighbour along axis `k`. -/
def nbr (k : Fin 3) (d : Dev nD) : Dev nD := ⟨nbrN k d, nbrN_lt k d⟩
/-- The axis slot `a` is filled along. -/
def axis (a : Fin 32) : Fin 3 := if a.val < 12 then 0 else if a.val < 22 then 1 else 2

/-! ## The printed windows, by index -/

/-- The window slot `a`'s chunk is sent from and into. -/
def offSend (a : Nat) (d : Dev nD) : Fin 3 → Nat :=
  bif Nat.blt a 8 then k0_off2 d (BitVec.ofNat 32 (2 * (a / 2))) (BitVec.ofNat 32 (a % 2)) else
  bif Nat.blt a 12 then k0_off4 d (BitVec.ofNat 32 (4 + 2 * ((a - 8) / 2))) (BitVec.ofNat 32 (a % 2)) else
  bif Nat.blt a 20 then k0_off6 d (BitVec.ofNat 32 (a - 12)) else
  bif Nat.blt a 22 then k0_off14 d (BitVec.ofNat 32 (a - 20)) else
  bif Nat.blt a 30 then k0_off6 d (BitVec.ofNat 32 (a - 22)) else
  k0_off11 d (BitVec.ofNat 32 (a - 28))
/-- The window a wait on slot `a`'s filling names. -/
def offRecv (a : Nat) (d : Dev nD) : Fin 3 → Nat :=
  bif Nat.blt a 12 then offSend a d else
  bif Nat.blt a 20 then k0_off11 d (BitVec.ofNat 32 (a - 12)) else
  bif Nat.blt a 22 then k0_off20 d (BitVec.ofNat 32 (a - 20)) else
  bif Nat.blt a 30 then k0_off14 d (BitVec.ofNat 32 (a - 22)) else
  k0_off20 d (BitVec.ofNat 32 (a - 28))
/-- The device slot `a`'s chunk is sent to, as printed. -/
def devSend : Nat → Dev nD → Dev nD
  | 0, d => ⟨k0_dev4 d, k0_dev4_lt d⟩ | 1, d => ⟨k0_dev5 d, k0_dev5_lt d⟩
  | 2, d => ⟨k0_dev6 d, k0_dev6_lt d⟩ | 3, d => ⟨k0_dev7 d, k0_dev7_lt d⟩
  | 4, d => ⟨k0_dev8 d, k0_dev8_lt d⟩ | 5, d => ⟨k0_dev9 d, k0_dev9_lt d⟩
  | 6, d => ⟨k0_dev10 d, k0_dev10_lt d⟩ | 7, d => ⟨k0_dev11 d, k0_dev11_lt d⟩
  | 8, d => ⟨k0_dev12 d, k0_dev12_lt d⟩ | 9, d => ⟨k0_dev13 d, k0_dev13_lt d⟩
  | 10, d => ⟨k0_dev14 d, k0_dev14_lt d⟩ | 11, d => ⟨k0_dev15 d, k0_dev15_lt d⟩
  | 12, d => ⟨k0_dev16 d, k0_dev16_lt d⟩ | 13, d => ⟨k0_dev18 d, k0_dev18_lt d⟩
  | 14, d => ⟨k0_dev20 d, k0_dev20_lt d⟩ | 15, d => ⟨k0_dev22 d, k0_dev22_lt d⟩
  | 16, d => ⟨k0_dev24 d, k0_dev24_lt d⟩ | 17, d => ⟨k0_dev26 d, k0_dev26_lt d⟩
  | 18, d => ⟨k0_dev28 d, k0_dev28_lt d⟩ | 19, d => ⟨k0_dev30 d, k0_dev30_lt d⟩
  | 20, d => ⟨k0_dev32 d, k0_dev32_lt d⟩ | 21, d => ⟨k0_dev33 d, k0_dev33_lt d⟩
  | 22, d => ⟨k0_dev17 d, k0_dev17_lt d⟩ | 23, d => ⟨k0_dev19 d, k0_dev19_lt d⟩
  | 24, d => ⟨k0_dev21 d, k0_dev21_lt d⟩ | 25, d => ⟨k0_dev23 d, k0_dev23_lt d⟩
  | 26, d => ⟨k0_dev25 d, k0_dev25_lt d⟩ | 27, d => ⟨k0_dev27 d, k0_dev27_lt d⟩
  | 28, d => ⟨k0_dev29 d, k0_dev29_lt d⟩ | 29, d => ⟨k0_dev31 d, k0_dev31_lt d⟩
  | 30, d => ⟨k0_dev34 d, k0_dev34_lt d⟩ | _, d => ⟨k0_dev35 d, k0_dev35_lt d⟩
/-- The device a barrier signal goes to, as printed. -/
def devSig : Nat → Dev nD → Dev nD
  | 0, d => ⟨k0_dev1 d, k0_dev1_lt d⟩ | 1, d => ⟨k0_dev2 d, k0_dev2_lt d⟩ | _, d => ⟨k0_dev3 d, k0_dev3_lt d⟩

/-- The role of output block `oc`: 0 the device's own quarter, 1 its neighbour's along `x`, 2 along
    `z`, 3 the diagonal one. -/
def role (oc : Nat) : Nat := bif Nat.blt oc 4 then 0 else bif Nat.blt oc 12 then (bif Nat.beq (oc % 2) 0 then 1 else 2) else 3
/-- Its first chunk within the quarter. -/
def cz (oc : Nat) : Nat :=
  bif Nat.blt oc 4 then 2 * oc else bif Nat.blt oc 12 then 2 * ((oc - 4) / 2) else
  bif Nat.beq oc 12 then 4 else bif Nat.beq oc 13 then 6 else bif Nat.beq oc 14 then 2 else 0

/-- The window of the input a stage copies: to the send buffers (`b = 0`) or the keep buffers. -/
def offIn (b t : Nat) (d : Dev nD) : Fin 3 → Nat :=
  bif Nat.beq b 0 then
    (bif Nat.blt t 4 then k0_off1 d (BitVec.ofNat 32 (2 * t)) else k0_off3 d (BitVec.ofNat 32 (4 + 2 * (t - 4))))
  else match role t with
    | 0 => k0_off5 d (BitVec.ofNat 32 (cz t))
    | 1 => k0_off9 d (BitVec.ofNat 32 (cz t))
    | 2 => k0_off10 d (BitVec.ofNat 32 (cz t))
    | _ => k0_off17 d (BitVec.ofNat 32 (cz t))
/-- The chunk of `rbuf` added to half `h` of output block `oc`. -/
def offAdd (oc h : Nat) (d : Dev nD) : Fin 3 → Nat :=
  match role oc with
    | 0 => k0_off7 d (BitVec.ofNat 32 (cz oc)) (BitVec.ofNat 32 h)
    | 1 => k0_off12 d (BitVec.ofNat 32 (cz oc)) (BitVec.ofNat 32 h)
    | 2 => k0_off15 d (BitVec.ofNat 32 (cz oc)) (BitVec.ofNat 32 h)
    | _ => k0_off18 d (BitVec.ofNat 32 (cz oc)) (BitVec.ofNat 32 h)
/-- The rows of the output that block `oc` fills. -/
def offOut (oc : Nat) (d : Dev nD) : Fin 2 → Nat :=
  match role oc with
    | 0 => k0_off8 d (BitVec.ofNat 32 (cz oc))
    | 1 => k0_off13 d (BitVec.ofNat 32 (cz oc))
    | 2 => k0_off16 d (BitVec.ofNat 32 (cz oc))
    | _ => k0_off19 d (BitVec.ofNat 32 (cz oc))

/-! ## Their closed forms -/

/-- The quarter of a role. -/
def quarter (r d : Nat) : Nat :=
  match r with | 0 => qme d | 1 => qxn d | 2 => qzn d | _ => qdg d
/-- The chunk of rows a staged group starts at. -/
def rowIn (b t d : Nat) : Nat :=
  bif Nat.beq b 0 then (bif Nat.blt t 4 then 8 * qme d + 2 * t else 8 * qdg d + 4 + 2 * (t - 4))
  else 8 * quarter (role t) d + cz t
/-- The half of the columns a stage copies: a device keeps its own half and sends the other. -/
def colIn (b d : Nat) : Nat := bif Nat.beq b 0 then 1 - d / 2 % 2 else d / 2 % 2

/-- The printed target of send `a` is the neighbour on the slot's axis. -/
theorem devSend_eq : ∀ (a : Fin 32) (d : Dev nD), devSend a d = nbr (axis a) d := by decide +kernel
/-- The printed target of signal `k` is the neighbour on axis `k`. -/
theorem devSig_eq : ∀ (k : Fin 3) (d : Dev nD), devSig k d = nbr k d := by decide +kernel
/-- A send writes the chunk of the neighbour's `rbuf` that slot `a` is there. -/
theorem offSend_eq : ∀ (a : Fin 32) (d : Dev nD), offSend a d = ![jr a (nbr (axis a) d), 0, 0] := by decide +kernel
/-- A receive waits for the chunk that slot `a` is here. -/
theorem offRecv_eq : ∀ (a : Fin 32) (d : Dev nD), offRecv a d = ![jr a d, 0, 0] := by decide +kernel
/-- The window of the input that group `t` to be sent is staged from. -/
theorem offIn0_eq : ∀ (t : Fin 6) (d : Dev nD), offIn 0 t d = ![0, 256 * rowIn 0 t d, 1024 * colIn 0 d] := by decide +kernel
/-- The window of the input that group `t` to be kept is staged from. -/
theorem offIn1_eq : ∀ (t : Fin 16) (d : Dev nD), offIn 1 t d = ![0, 256 * rowIn 1 t d, 1024 * colIn 1 d] := by decide +kernel
/-- The chunk of `rbuf` that half `h` of output block `oc` adds. -/
theorem offAdd_eq : ∀ (oc : Fin 16) (h : Fin 2) (d : Dev nD), offAdd oc h d = ![rowIn 1 oc d + h.val, 0, 0] := by decide +kernel
/-- The rows of the result that output block `oc` fills. -/
theorem offOut_eq : ∀ (oc : Fin 16) (d : Dev nD), offOut oc d = ![256 * rowIn 1 oc d, 0] := by decide +kernel

/-! ## In bounds, whole words -/

/-- The windows staged to be sent lie in the input. -/
theorem inbIn0 (t : Fin 6) (d : Dev nD) : ∀ a, offIn 0 t d a + S1x512x1024.size a ≤ S1x8192x2048.size a := by
  revert t d; decide +kernel
/-- The windows staged to be kept lie in the input. -/
theorem inbIn1 (t : Fin 16) (d : Dev nD) : ∀ a, offIn 1 t d a + S1x512x1024.size a ≤ S1x8192x2048.size a := by
  revert t d; decide +kernel
/-- The chunks sent to lie in `rbuf`. -/
theorem inbSend (a : Fin 32) (d : Dev nD) : ∀ i, offSend a d i + S1x256x1024.size i ≤ S32x256x1024.size i := by
  revert a d; decide +kernel
/-- The chunks waited for lie in `rbuf`. -/
theorem inbRecv (a : Fin 32) (d : Dev nD) : ∀ i, offRecv a d i + S1x256x1024.size i ≤ S32x256x1024.size i := by
  revert a d; decide +kernel
/-- The chunks added lie in `rbuf`. -/
theorem inbAdd (oc : Fin 16) (h : Fin 2) (d : Dev nD) : ∀ i, offAdd oc h d i + S1x256x1024.size i ≤ S32x256x1024.size i := by
  revert oc h d; decide +kernel
/-- The blocks written back lie in the result. -/
theorem inbOut (oc : Fin 16) (d : Dev nD) : ∀ i, offOut oc d i + S512x1024.size i ≤ S8192x1024.size i := by
  revert oc d; decide +kernel
/-- A staging slot lies in its buffer. -/
theorem inbSt (s : Fin 2) : ∀ a, (![s.val, 0, 0] : Fin 3 → Nat) a + S1x512x1024.size a ≤ S2x512x1024.size a := by
  revert s; decide
/-- A half of a staging slot lies in its buffer. -/
theorem inbSt2 (s h : Fin 2) : ∀ a, (![s.val, 256 * h.val, 0] : Fin 3 → Nat) a + S1x256x1024.size a ≤ S2x512x1024.size a := by
  revert s h; decide
/-- An output slot lies in the output buffer. -/
theorem inbOb (s : Fin 4) : ∀ a, (![s.val, 0, 0] : Fin 3 → Nat) a + S1x512x1024.size a ≤ S4x512x1024.size a := by
  revert s; decide
/-- A half of an output slot lies in the output buffer. -/
theorem inbOb2 (s : Fin 4) (h : Fin 2) : ∀ a, (![s.val, 256 * h.val, 0] : Fin 3 → Nat) a + S1x256x1024.size a ≤ S4x512x1024.size a := by
  revert s h; decide
/-- A chunk lies in the send buffer. -/
theorem inbYs (i : Fin 12) : ∀ a, (![i.val, 0, 0] : Fin 3 → Nat) a + S1x256x1024.size a ≤ S12x256x1024.size a := by
  revert i; decide
/-- A chunk sent to is whole words of `rbuf`. -/
theorem wSend (a : Fin 32) (d : Dev nD) : (Rect.unit (s := S32x256x1024) (offSend a d) S1x256x1024.size (inbSend a d)).WholeWords (EltTy.packing .bf16) := by
  revert a d; decide +kernel
/-- A chunk waited for is whole words of `rbuf`. -/
theorem wRecv (a : Fin 32) (d : Dev nD) : (Rect.unit (s := S32x256x1024) (offRecv a d) S1x256x1024.size (inbRecv a d)).WholeWords (EltTy.packing .bf16) := by
  revert a d; decide +kernel
/-- A block written back is whole words of the result. -/
theorem wOut (oc : Fin 16) (d : Dev nD) : (Rect.unit (s := S8192x1024) (offOut oc d) S512x1024.size (inbOut oc d)).WholeWords (EltTy.packing .bf16) := by
  revert oc d; decide +kernel
/-- An output slot is whole words of the output buffer. -/
theorem wOb (s : Fin 4) : (Rect.unit (s := S4x512x1024) ![s.val, 0, 0] S1x512x1024.size (inbOb s)).WholeWords (EltTy.packing .bf16) := by
  revert s; decide
/-- A chunk is whole words of the send buffer. -/
theorem wYs (i : Fin 12) : (Rect.unit (s := S12x256x1024) ![i.val, 0, 0] S1x256x1024.size (inbYs i)).WholeWords (EltTy.packing .bf16) := by
  revert i; decide
/-- A half of an output slot is packed rows of the output buffer. -/
theorem pOb2 (s : Fin 4) (h : Fin 2) : (Rect.unit (s := S4x512x1024) ![s.val, 256 * h.val, 0] S1x256x1024.size (inbOb2 s h)).PackedRows (EltTy.packing .bf16) := by
  revert s h; decide
/-- A chunk is packed rows of the send buffer. -/
theorem pYs (i : Fin 12) : (Rect.unit (s := S12x256x1024) ![i.val, 0, 0] S1x256x1024.size (inbYs i)).PackedRows (EltTy.packing .bf16) := by
  revert i; decide

/-! ## The windows -/

/-- The input. -/
abbrev X : Memref sig .tc .hbm S1x8192x2048 .f32 := Memref.whole main_arg0
/-- The result. -/
abbrev O : Memref sig .tc .hbm S8192x1024 .bf16 := Memref.whole main_v1
/-- `rbuf`: the chunks that arrive. -/
abbrev RBm : Memref sig .tc .vmem S32x256x1024 .bf16 := Memref.whole cc0_scratch0
/-- The send buffer along `y`. -/
abbrev YSm : Memref sig .tc .vmem S12x256x1024 .bf16 := Memref.whole cc0_scratch1
/-- The staging buffer of what is sent. -/
abbrev SSm : Memref sig .tc .vmem S2x512x1024 .f32 := Memref.whole cc0_scratch2
/-- The staging buffer of what is kept. -/
abbrev SKm : Memref sig .tc .vmem S2x512x1024 .f32 := Memref.whole cc0_scratch3
/-- The output buffer. -/
abbrev OBm : Memref sig .tc .vmem S4x512x1024 .bf16 := Memref.whole cc0_scratch4

/-- A window of 512 rows and 1024 columns of the input. -/
abbrev xWin (o : Fin 3 → Nat) (h : ∀ a, o a + S1x512x1024.size a ≤ S1x8192x2048.size a) : Memref sig .tc .hbm S512x1024 .f32 :=
  (X.slice (Rect.unit (s := S1x8192x2048) o S1x512x1024.size h) (fun _ => rfl)).squeeze S512x1024 squeezes_S1x512x1024_S512x1024
/-- A slot of a staging buffer. -/
abbrev stWin (m : Memref sig .tc .vmem S2x512x1024 .f32) (s : Fin 2) : Memref sig .tc .vmem S512x1024 .f32 :=
  (m.slice (Rect.unit (s := S2x512x1024) ![s.val, 0, 0] S1x512x1024.size (inbSt s)) (fun _ => rfl)).squeeze S512x1024 squeezes_S1x512x1024_S512x1024
/-- A chunk of `rbuf`. -/
abbrev rbWin (o : Fin 3 → Nat) (h : ∀ i, o i + S1x256x1024.size i ≤ S32x256x1024.size i) : Memref sig .tc .vmem S256x1024 .bf16 :=
  (RBm.slice (Rect.unit (s := S32x256x1024) o S1x256x1024.size h) (fun _ => rfl)).squeeze S256x1024 squeezes_S1x256x1024_S256x1024
/-- A chunk of the send buffer. -/
abbrev ysWin (i : Fin 12) : Memref sig .tc .vmem S256x1024 .bf16 :=
  (YSm.slice (Rect.unit (s := S12x256x1024) ![i.val, 0, 0] S1x256x1024.size (inbYs i)) (fun _ => rfl)).squeeze S256x1024 squeezes_S1x256x1024_S256x1024
/-- A slot of the output buffer. -/
abbrev obWin (s : Fin 4) : Memref sig .tc .vmem S512x1024 .bf16 :=
  (OBm.slice (Rect.unit (s := S4x512x1024) ![s.val, 0, 0] S1x512x1024.size (inbOb s)) (fun _ => rfl)).squeeze S512x1024 squeezes_S1x512x1024_S512x1024
/-- A block of rows of the output. -/
abbrev oWin (o : Fin 2 → Nat) (h : ∀ i, o i + S512x1024.size i ≤ S8192x1024.size i) : Memref sig .tc .hbm S512x1024 .bf16 :=
  O.slice (Rect.unit (s := S8192x1024) o S512x1024.size h) (fun _ => rfl)

/-! ## Semaphores -/

/-- The runtime's barrier semaphore. -/
abbrev barS : Sem sig := (SemArray.scalar (sig.barrier 0 rfl) : Sems sig S_).sem
/-- The semaphore a stage completes on, -/
def ssS (s : Fin 2) : DmaSem sig := ⟨s.val, by have := s.2; show _ < 72; omega⟩
/-- The semaphore of a staging slot of what is kept. -/
def ssK (s : Fin 2) : DmaSem sig := ⟨2 + s.val, by have := s.2; show _ < 72; omega⟩
/-- a write to the output, -/
def ssO (s : Fin 4) : DmaSem sig := ⟨4 + s.val, by have := s.2; show _ < 72; omega⟩
/-- the first of the semaphores on the axis of slot `a`, -/
def base (a : Nat) : Nat := bif Nat.blt a 12 then 8 else bif Nat.blt a 22 then 20 else 30
/-- A send semaphore's number is in range. -/
theorem sSend_lt : ∀ a : Fin 32, base a.val + a.val < 72 := by decide
/-- A receive semaphore's number is in range. -/
theorem sRecv_lt : ∀ a : Fin 32, (bif Nat.blt a.val 12 then 20 else 30) + (bif Nat.blt a.val 22 then 0 else 10) + a.val < 72 := by decide
/-- the sending of slot `a`'s chunk, -/
def sSend (a : Fin 32) : DmaSem sig := ⟨base a.val + a.val, sSend_lt a⟩
/-- and its arrival. -/
def sRecv (a : Fin 32) : DmaSem sig := ⟨(bif Nat.blt a.val 12 then 20 else 30) + (bif Nat.blt a.val 22 then 0 else 10) + a.val, sRecv_lt a⟩

/-! ## Instructions -/

/-- What the body is made of: a barrier signal, the barrier wait; starting and awaiting a stage (`S` for what
    is sent, `K` for what is kept); casting a half of a staged group; sending and awaiting a chunk; adding a
    half of an output block, starting and awaiting its write; awaiting a send's read-out. -/
inductive Ins where
  | sig (k : Fin 3) | barWait
  | stageS (t : Fin 6) | waitS (t : Fin 6) | cast (i : Fin 12)
  | sendY (i : Fin 12) | send (a : Fin 32) | recv (a : Fin 32)
  | stageK (t : Fin 16) | waitK (t : Fin 16)
  | half (oc : Fin 16) (h : Fin 2) | outS (oc : Fin 16) | outW (oc : Fin 16)
  | doneY (i : Fin 12) | done (a : Fin 32)
deriving DecidableEq

/-- The slot of a group, of an output block, -/
def sl2 {n : Nat} (t : Fin n) : Fin 2 := ⟨t.val % 2, Nat.mod_lt _ (by decide)⟩
/-- The output slot of a block. -/
def sl4 {n : Nat} (t : Fin n) : Fin 4 := ⟨t.val % 4, Nat.mod_lt _ (by decide)⟩
/-- the group of a chunk to be cast, -/
def grp (i : Fin 12) : Fin 6 := ⟨i.val / 2, by have := i.2; omega⟩
/-- the slot of a chunk sent along `y`. -/
def up (i : Fin 12) : Fin 32 := ⟨i.val, by have := i.2; omega⟩

/-- A chunk cast to `bf16`. -/
def castPay (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- A chunk cast to `bf16` and added to another. -/
def addPay (v : Vec F S1x256x1024 .f32) (w : Vec F S1x256x1024 .bf16) : FVec F S1x256x1024 .bf16 :=
  shapeCast S1x256x1024 (addf (truncf .bf16 (shapeCast S256x1024 v shapeCasts_S1x256x1024_S256x1024) bitsLt_bf16_f32)
    (shapeCast S256x1024 w shapeCasts_S1x256x1024_S256x1024)) shapeCasts_S256x1024_S1x256x1024

variable (F) in
/-- The program type of the body. -/
abbrev P : Type 1 := Prog (TpuEff nD τ sig (Elt F) Λ₀ .tc) PUnit

/-- The operations of an instruction on device `d`. -/
def run (d : Dev nD) : Ins → P F
  | .sig k => semSignalWord (devSig k d) barS 1#32
  | .barWait => semWaitWord barS 3#32
  | .stageS t => Prog.lift (.enqueueDma (xWin (offIn 0 t d) (inbIn0 t d)) (.here (stWin SSm (sl2 t))) (.dma (ssS (sl2 t)))
      ((View.wordExact_bits rfl).reshape _ _) ((View.wordExact_bits rfl).reshape _ _) ⟨Or.inl rfl, trivial⟩)
  | .waitS t => Prog.lift (.waitDma2 (ssS (sl2 t)) (xWin (offIn 0 t d) (inbIn0 t d)) (stWin SSm (sl2 t))
      ((View.wordExact_bits rfl).reshape _ _) ((View.wordExact_bits rfl).reshape _ _))
  | .cast i => do
      let v ← Prog.lift (.load SSm (Rect.unit (s := S2x512x1024) ![(sl2 (grp i)).val, 256 * (sl2 i).val, 0] S1x256x1024.size (inbSt2 _ _)).toLoadRect (View.loadsAt_vmem h_S1x256x1024))
      let _ ← Prog.lift (.load YSm (Rect.unit (s := S12x256x1024) ![i.val, 0, 0] S1x256x1024.size (inbYs i)).toLoadRect (View.loadsAt_vmem h_S1x256x1024))
      Prog.lift (.store YSm (Rect.unit (s := S12x256x1024) ![i.val, 0, 0] S1x256x1024.size (inbYs i)) (castPay v) Finset.univ
        (View.stores_vmem h_S1x256x1024 ((Memref.isWhole_whole cc0_scratch1).storeExact_slice rfl _ (pYs i)) (fun _ => rfl)) (.inl rfl))
  | .sendY i => Prog.lift (.enqueueDma (ysWin i) (.remote (Dev.tc (devSend (up i) d)) (rbWin (offSend (up i) d) (inbSend (up i) d)) (.dma (sSend (up i)))) (.dma (sRecv (up i)))
      (((Memref.isWhole_whole cc0_scratch1).wordExact_slice rfl _ (wYs i)).reshape _ _)
      (((Memref.isWhole_whole cc0_scratch0).wordExact_slice rfl _ (wSend (up i) d)).reshape _ _) ⟨⟨rfl, Or.inl rfl⟩, trivial⟩)
  | .send a => Prog.lift (.enqueueDma (rbWin (offSend a d) (inbSend a d)) (.remote (Dev.tc (devSend a d)) (rbWin (offSend a d) (inbSend a d)) (.dma (sSend a))) (.dma (sRecv a))
      (((Memref.isWhole_whole cc0_scratch0).wordExact_slice rfl _ (wSend a d)).reshape _ _)
      (((Memref.isWhole_whole cc0_scratch0).wordExact_slice rfl _ (wSend a d)).reshape _ _) ⟨⟨rfl, Or.inl rfl⟩, trivial⟩)
  | .recv a => if h : a.val < 12 then
      Prog.lift (.waitDma2 (sRecv a) (ysWin ⟨a.val, h⟩) (rbWin (offRecv a d) (inbRecv a d))
        (((Memref.isWhole_whole cc0_scratch1).wordExact_slice rfl _ (wYs ⟨a.val, h⟩)).reshape _ _)
        (((Memref.isWhole_whole cc0_scratch0).wordExact_slice rfl _ (wRecv a d)).reshape _ _))
    else
      Prog.lift (.waitDma2 (sRecv a) (rbWin (offRecv a d) (inbRecv a d)) (rbWin (offRecv a d) (inbRecv a d))
        (((Memref.isWhole_whole cc0_scratch0).wordExact_slice rfl _ (wRecv a d)).reshape _ _)
        (((Memref.isWhole_whole cc0_scratch0).wordExact_slice rfl _ (wRecv a d)).reshape _ _))
  | .stageK t => Prog.lift (.enqueueDma (xWin (offIn 1 t d) (inbIn1 t d)) (.here (stWin SKm (sl2 t))) (.dma (ssK (sl2 t)))
      ((View.wordExact_bits rfl).reshape _ _) ((View.wordExact_bits rfl).reshape _ _) ⟨Or.inl rfl, trivial⟩)
  | .waitK t => Prog.lift (.waitDma2 (ssK (sl2 t)) (xWin (offIn 1 t d) (inbIn1 t d)) (stWin SKm (sl2 t))
      ((View.wordExact_bits rfl).reshape _ _) ((View.wordExact_bits rfl).reshape _ _))
  | .half oc h => do
      let v ← Prog.lift (.load SKm (Rect.unit (s := S2x512x1024) ![(sl2 oc).val, 256 * h.val, 0] S1x256x1024.size (inbSt2 _ _)).toLoadRect (View.loadsAt_vmem h_S1x256x1024))
      let w ← Prog.lift (.load RBm (Rect.unit (s := S32x256x1024) (offAdd oc h d) S1x256x1024.size (inbAdd oc h d)).toLoadRect (View.loadsAt_vmem h_S1x256x1024))
      let _ ← Prog.lift (.load OBm (Rect.unit (s := S4x512x1024) ![(sl4 oc).val, 256 * h.val, 0] S1x256x1024.size (inbOb2 _ _)).toLoadRect (View.loadsAt_vmem h_S1x256x1024))
      Prog.lift (.store OBm (Rect.unit (s := S4x512x1024) ![(sl4 oc).val, 256 * h.val, 0] S1x256x1024.size (inbOb2 _ _)) (addPay v w) Finset.univ
        (View.stores_vmem h_S1x256x1024 ((Memref.isWhole_whole cc0_scratch4).storeExact_slice rfl _ (pOb2 _ _)) (fun _ => rfl)) (.inl rfl))
  | .outS oc => Prog.lift (.enqueueDma (obWin (sl4 oc)) (.here (oWin (offOut oc d) (inbOut oc d))) (.dma (ssO (sl4 oc)))
      (((Memref.isWhole_whole cc0_scratch4).wordExact_slice rfl _ (wOb (sl4 oc))).reshape _ _)
      ((Memref.isWhole_whole main_v1).wordExact_slice rfl _ (wOut oc d)) ⟨Or.inl rfl, trivial⟩)
  | .outW oc => Prog.lift (.waitDma2 (ssO (sl4 oc)) (obWin (sl4 oc)) (oWin (offOut oc d) (inbOut oc d))
      (((Memref.isWhole_whole cc0_scratch4).wordExact_slice rfl _ (wOb (sl4 oc))).reshape _ _)
      ((Memref.isWhole_whole main_v1).wordExact_slice rfl _ (wOut oc d)))
  | .doneY i => Prog.lift (.waitDma2 (sSend (up i)) (rbWin (offSend (up i) d) (inbSend (up i) d)) (ysWin i)
      (((Memref.isWhole_whole cc0_scratch0).wordExact_slice rfl _ (wSend (up i) d)).reshape _ _)
      (((Memref.isWhole_whole cc0_scratch1).wordExact_slice rfl _ (wYs i)).reshape _ _))
  | .done a => Prog.lift (.waitDma2 (sSend a) (rbWin (offSend a d) (inbSend a d)) (rbWin (offSend a d) (inbSend a d))
      (((Memref.isWhole_whole cc0_scratch0).wordExact_slice rfl _ (wSend a d)).reshape _ _)
      (((Memref.isWhole_whole cc0_scratch0).wordExact_slice rfl _ (wSend a d)).reshape _ _))

/-- The operations of a list of instructions. -/
def runAll (d : Dev nD) : List Ins → P F
  | [] => pure ⟨⟩
  | i :: is => run d i >>= fun _ => runAll d is

/-- The body: the barrier; the chunks to be sent along `y`, staged, cast and sent; the device's own quarter; the
    quarters of its two neighbours; the diagonal one; and the waits that drain every transfer. -/
def prog : List Ins :=
  [
    .sig 0, .sig 1, .sig 2, .barWait, .stageS 0, .stageS 1, .waitS 0, .cast 0, .sendY 0, .cast 1, .sendY 1,
    .stageS 2, .waitS 1, .cast 2, .sendY 2, .cast 3, .sendY 3, .stageS 3, .waitS 2, .cast 4, .sendY 4, .cast 5,
    .sendY 5, .stageS 4, .waitS 3, .cast 6, .sendY 6, .cast 7, .sendY 7, .stageS 5, .waitS 4, .cast 8, .sendY 8,
    .cast 9, .sendY 9, .waitS 5, .cast 10, .sendY 10, .cast 11, .sendY 11, .stageK 0, .stageK 1, .recv 0,
    .send 12, .send 22, .recv 1, .send 13, .send 23, .waitK 0, .half 0 0, .half 0 1, .outS 0, .stageK 2,
    .recv 2, .send 14, .send 24, .recv 3, .send 15, .send 25, .waitK 1, .half 1 0, .half 1 1, .outS 1,
    .stageK 3, .recv 4, .send 16, .send 26, .recv 5, .send 17, .send 27, .waitK 2, .half 2 0, .half 2 1,
    .outS 2, .recv 6, .send 18, .send 28, .recv 7, .send 19, .send 29, .waitK 3, .half 3 0, .half 3 1, .outS 3,
    .stageK 4, .stageK 5, .recv 12, .recv 13, .waitK 4, .outW 0, .half 4 0, .half 4 1, .outS 4, .stageK 6,
    .recv 22, .send 20, .recv 23, .send 21, .waitK 5, .outW 1, .half 5 0, .half 5 1, .outS 5, .stageK 7,
    .recv 14, .send 30, .recv 15, .send 31, .waitK 6, .outW 2, .half 6 0, .half 6 1, .outS 6, .stageK 8,
    .recv 24, .recv 25, .waitK 7, .outW 3, .half 7 0, .half 7 1, .outS 7, .stageK 9, .recv 16, .recv 17,
    .waitK 8, .outW 4, .half 8 0, .half 8 1, .outS 8, .stageK 10, .recv 26, .recv 27, .waitK 9, .outW 5,
    .half 9 0, .half 9 1, .outS 9, .stageK 11, .recv 18, .recv 19, .waitK 10, .outW 6, .half 10 0, .half 10 1,
    .outS 10, .recv 28, .recv 29, .waitK 11, .outW 7, .half 11 0, .half 11 1, .outS 11, .stageK 12, .stageK 13,
    .recv 8, .recv 9, .waitK 12, .outW 8, .half 12 0, .half 12 1, .outS 12, .stageK 14, .recv 10, .recv 11,
    .waitK 13, .outW 9, .half 13 0, .half 13 1, .outS 13, .stageK 15, .recv 30, .recv 31, .waitK 14, .outW 10,
    .half 14 0, .half 14 1, .outS 14, .recv 20, .recv 21, .waitK 15, .outW 11, .half 15 0, .half 15 1, .outS 15,
    .doneY 0, .doneY 1, .doneY 2, .doneY 3, .doneY 4, .doneY 5, .doneY 6, .doneY 7, .doneY 8, .doneY 9,
    .doneY 10, .doneY 11, .done 12, .done 13, .done 14, .done 15, .done 16, .done 17, .done 18, .done 19,
    .done 20, .done 21, .done 22, .done 23, .done 24, .done 25, .done 26, .done 27, .done 28, .done 29,
    .done 30, .done 31, .outW 12, .outW 13, .outW 14, .outW 15]

end Cert.RS
-- ==== Proof.Win.lean ====
/-
  The windows read by coordinates: which elements of a buffer a window has, and where an element of
  the window lies in the buffer.
-/
module

public import proofs.«01_k».proof.Proof.Prog
public import Idealize.ShloMosaic.Lib.ValueIdxCore
public import Idealize.ShloMosaic.Lib.ValueLayout
public import Idealize.ShloMosaic.Lib.Pointwise.ElementwiseCore

@[expose] public section

noncomputable section

namespace Cert.RS

open Cert.KernelIdeal Cert.KernelIdeal.Gen
open Idealize.ShloMosaic Idealize.ShloMosaic.TcCoe Idealize.SL.Sem
open Idealize.ShloMosaic.ValueIdx

variable {F : FTy → Type} [FloatOps F]

/-! ## A block of rows of one page, as a matrix -/

section Page
variable {n A B a b : Nat} (o : Fin 3 → Nat)
  (h : ∀ i, o i + (⟨3, ![1, a, b]⟩ : Shape).size i ≤ (⟨3, ![n, A, B]⟩ : Shape).size i)
  (hn : (⟨2, ![a, b]⟩ : Shape).numel = (⟨3, ![1, a, b]⟩ : Shape).numel)
  (x : (⟨2, ![a, b]⟩ : Shape).Idx)

/-- Row `x 0` and column `x 1` of the block at `o` lie on page `o 0`, -/
theorem page_0 : (((Rect.unit (s := ⟨3, ![n, A, B]⟩) o (⟨3, ![1, a, b]⟩ : Shape).size h).emb (Shape.reshapeEquiv hn x)) 0).val = o 0 := by
  rw [Rect.emb_apply, Shape.reshapeEquiv_cons_one]
  show o 0 + 1 * 0 = o 0
  omega
/-- in row `o 1 + x 0`, -/
theorem page_1 : (((Rect.unit (s := ⟨3, ![n, A, B]⟩) o (⟨3, ![1, a, b]⟩ : Shape).size h).emb (Shape.reshapeEquiv hn x)) 1).val = o 1 + (x 0).val := by
  rw [Rect.emb_apply, Shape.reshapeEquiv_cons_one]
  show o 1 + 1 * (x 0).val = _
  omega
/-- in column `o 2 + x 1`. -/
theorem page_2 : (((Rect.unit (s := ⟨3, ![n, A, B]⟩) o (⟨3, ![1, a, b]⟩ : Shape).size h).emb (Shape.reshapeEquiv hn x)) 2).val = o 2 + (x 1).val := by
  rw [Rect.emb_apply, Shape.reshapeEquiv_cons_one]
  show o 2 + 1 * (x 1).val = _
  omega
end Page

/-! ## The elements of the windows -/

/-- A page of a buffer. -/
def pg {n A B : Nat} (j : Nat) : Finset (⟨3, ![n, A, B]⟩ : Shape).Idx := Finset.univ.filter fun i => (i 0).val = j
/-- Half `h` (256 rows) of a page. -/
def hf {n A B : Nat} (j h : Nat) : Finset (⟨3, ![n, A, B]⟩ : Shape).Idx := Finset.univ.filter fun i => (i 0).val = j ∧ (i 1).val / 256 = h
/-- Block `k` (512 rows) of the output. -/
def blk {A B : Nat} (k : Nat) : Finset (⟨2, ![A, B]⟩ : Shape).Idx := Finset.univ.filter fun i => (i 0).val / 512 = k

/-- An index lies in page `j` when its first coordinate is `j`. -/
theorem mem_pg {n A B : Nat} {j : Nat} {i : (⟨3, ![n, A, B]⟩ : Shape).Idx} : i ∈ (pg j : Finset (⟨3, ![n, A, B]⟩ : Shape).Idx) ↔ (i 0).val = j := by simp [pg]
/-- An index lies in half `h` of page `j` when its first coordinate is `j` and its row lies in half `h`. -/
theorem mem_hf {n A B : Nat} {j h : Nat} {i : (⟨3, ![n, A, B]⟩ : Shape).Idx} : i ∈ (hf j h : Finset (⟨3, ![n, A, B]⟩ : Shape).Idx) ↔ (i 0).val = j ∧ (i 1).val / 256 = h := by simp [hf]
/-- An index lies in block `k` when its row does. -/
theorem mem_blk {A B : Nat} {k : Nat} {i : (⟨2, ![A, B]⟩ : Shape).Idx} : i ∈ (blk k : Finset (⟨2, ![A, B]⟩ : Shape).Idx) ↔ (i 0).val / 512 = k := by simp [blk]

/-- A rectangle of one whole page is that page's indices. -/
theorem unit_pg {n A B : Nat} (o : Fin 3 → Nat) (h : ∀ i, o i + (⟨3, ![1, A, B]⟩ : Shape).size i ≤ (⟨3, ![n, A, B]⟩ : Shape).size i) (j : Nat)
    (ho : o = ![j, 0, 0]) : (Rect.unit (s := ⟨3, ![n, A, B]⟩) o (⟨3, ![1, A, B]⟩ : Shape).size h).set = pg j := by
  subst ho
  ext i
  rw [Rect.mem_set_unit, mem_pg]
  constructor
  · intro H
    have := H 0
    change j ≤ (i 0).val ∧ (i 0).val < j + 1 at this
    omega
  · intro H a
    have h1 : (i 1).val < A := (i 1).isLt
    have h2 : (i 2).val < B := (i 2).isLt
    match a with
    | ⟨0, _⟩ => change j ≤ (i 0).val ∧ (i 0).val < j + 1; omega
    | ⟨1, _⟩ => change 0 ≤ (i 1).val ∧ (i 1).val < 0 + A; omega
    | ⟨2, _⟩ => change 0 ≤ (i 2).val ∧ (i 2).val < 0 + B; omega

/-- A rectangle of 256 rows of a page is that half's indices. -/
theorem unit_hf {n A B : Nat} (s t : Nat) (h : ∀ i, (![s, 256 * t, 0] : Fin 3 → Nat) i + (⟨3, ![1, 256, B]⟩ : Shape).size i ≤ (⟨3, ![n, A, B]⟩ : Shape).size i) :
    (Rect.unit (s := ⟨3, ![n, A, B]⟩) ![s, 256 * t, 0] (⟨3, ![1, 256, B]⟩ : Shape).size h).set = hf s t := by
  ext i
  rw [Rect.mem_set_unit, mem_hf]
  constructor
  · intro H
    have h0 := H 0
    have h1 := H 1
    change s ≤ (i 0).val ∧ (i 0).val < s + 1 at h0
    change 256 * t ≤ (i 1).val ∧ (i 1).val < 256 * t + 256 at h1
    omega
  · intro H a
    have h2 : (i 2).val < B := (i 2).isLt
    match a with
    | ⟨0, _⟩ => change s ≤ (i 0).val ∧ (i 0).val < s + 1; omega
    | ⟨1, _⟩ => change 256 * t ≤ (i 1).val ∧ (i 1).val < 256 * t + 256; omega
    | ⟨2, _⟩ => change 0 ≤ (i 2).val ∧ (i 2).val < 0 + B; omega

/-- A rectangle of 512 rows at a multiple of 512 is that block's indices. -/
theorem unit_blk {A B : Nat} (o : Fin 2 → Nat) (h : ∀ i, o i + (⟨2, ![512, B]⟩ : Shape).size i ≤ (⟨2, ![A, B]⟩ : Shape).size i) (k : Nat)
    (ho : o = ![512 * k, 0]) : (Rect.unit (s := ⟨2, ![A, B]⟩) o (⟨2, ![512, B]⟩ : Shape).size h).set = blk k := by
  subst ho
  ext i
  rw [Rect.mem_set_unit, mem_blk]
  constructor
  · intro H
    have := H 0
    change 512 * k ≤ (i 0).val ∧ (i 0).val < 512 * k + 512 at this
    omega
  · intro H a
    have h1 : (i 1).val < B := (i 1).isLt
    match a with
    | ⟨0, _⟩ => change 512 * k ≤ (i 0).val ∧ (i 0).val < 512 * k + 512; omega
    | ⟨1, _⟩ => change 0 ≤ (i 1).val ∧ (i 1).val < 0 + B; omega

/-- A window of `rbuf` is a page. -/
theorem rb_set (o) (h) (j : Nat) (ho : o = ![j, 0, 0]) : (rbWin o h).view.set = pg j :=
  ((View.set_reshape _ _).trans (View.set_slice_whole _ _)).trans (unit_pg o h j ho)
/-- A window of the send buffer is a page. -/
theorem ys_set (i : Fin 12) : (ysWin i).view.set = pg i.val :=
  ((View.set_reshape _ _).trans (View.set_slice_whole _ _)).trans (unit_pg _ _ _ rfl)
/-- A slot of the staging buffer of what is sent is a page. -/
theorem ss_set (s : Fin 2) : (stWin SSm s).view.set = pg s.val :=
  ((View.set_reshape _ _).trans (View.set_slice_whole _ _)).trans (unit_pg _ _ _ rfl)
/-- A slot of the staging buffer of what is kept is a page. -/
theorem sk_set (s : Fin 2) : (stWin SKm s).view.set = pg s.val :=
  ((View.set_reshape _ _).trans (View.set_slice_whole _ _)).trans (unit_pg _ _ _ rfl)
/-- A slot of the output buffer is a page. -/
theorem ob_set (s : Fin 4) : (obWin s).view.set = pg s.val :=
  ((View.set_reshape _ _).trans (View.set_slice_whole _ _)).trans (unit_pg _ _ _ rfl)
/-- A window of the result is a block. -/
theorem o_set (o) (h) (k : Nat) (ho : o = ![512 * k, 0]) : (oWin o h).view.set = blk k :=
  (View.set_slice_whole _ _).trans (unit_blk o h k ho)

/-! ## The stored values, element by element -/

/-- What a cast stores, at an index: the element cast. -/
theorem castPay_apply (v : Vec F S1x256x1024 .f32) (y : S1x256x1024.Idx) :
    castPay v y = FloatOps.truncf .bf16 bitsLt_bf16_f32 (v y) := by
  unfold castPay shapeCast
  rw [truncf_apply]
  show FloatOps.truncf .bf16 _ (v (Shape.reshapeEquiv _ (Shape.reshapeEquiv _ y))) = _
  rw [Shape.reshapeEquiv_reshapeEquiv, Shape.reshapeEquiv_self]

/-- What an add stores, at an index: the element cast, plus the arrived element. -/
theorem addPay_apply (v : Vec F S1x256x1024 .f32) (w : Vec F S1x256x1024 .bf16) (y : S1x256x1024.Idx) :
    addPay v w y = FloatOps.addf (FloatOps.truncf .bf16 bitsLt_bf16_f32 (v y)) (w y) := by
  unfold addPay shapeCast
  rw [addf_apply, truncf_apply]
  show FloatOps.addf (FloatOps.truncf .bf16 _ (v (Shape.reshapeEquiv _ (Shape.reshapeEquiv _ y)))) (w (Shape.reshapeEquiv _ (Shape.reshapeEquiv _ y))) = _
  rw [Shape.reshapeEquiv_reshapeEquiv, Shape.reshapeEquiv_self]

end Cert.RS
-- ==== Proof.Common.lean ====
/-
  The protocol.  The resource algebra, the memory's contents by coordinates, the cells with what a
  transfer or a signal hands over (`rd`), the levels, what a device owes while it runs, and the pieces
  of state (`Tok`) a device holds between two instructions.
-/
module

public import proofs.«01_k».proof.Proof.Win
public import proofs.«01_k».proof.Proof.Gen.KernelIdeal.Launch
public import Idealize.ShloMosaic.Lib.Pipeline.Launch
public import Idealize.ShloMosaic.Lib.Transfers
public import Idealize.ShloMosaic.Lib.Tactic

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra -/

/-- The cells' rounds, duties numbered 0 to 2. -/
abbrev UB : Type := URounds (GSem nD τ sig) (Fin 3)
/-- The launch's rounds, the cells', the local transfers' counters. -/
abbrev UU : Type := UR sig nD τ × (UB × Counters)

local notation "𝕄" => MT nD τ sig Unit (Elt F) ℕ UU ℕ

/-- The launch's rounds in the proof's resources. -/
abbrev EP : Emb (UR sig nD τ) (MT nD τ sig Unit (Elt F) ℕ UU ℕ) := embL
/-- The cells' rounds in the proof's resources. -/
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance EB_landsIn : (EB : Emb UB 𝕄).LandsIn (upEmb : UEmb _ 𝕄) := by unfold EB; infer_instance
/-- The local copies' counters in the proof's resources. -/
abbrev EC : UEmb Counters (MT nD τ sig Unit (Elt F) ℕ UU ℕ) := countersEmb

variable (m : (ℓ : Loc nD τ sig) → Buf (Elt F) ℓ)

/-! ## Contents -/

/-- The half of the columns a device keeps. -/
def hy (c : Dev nD) : Nat := c.val / 2 % 2

/-- The device whose input reaches chunk `j` of device `c`'s `rbuf`: a neighbour along `y`, or the device that is
    one of the owner of the quarter `j` lies in. -/
def srcDev (c : Dev nD) (j : Nat) : Dev nD :=
  bif Nat.beq (j / 8) (qdg c.val) && Nat.ble 4 (j % 8) then nbr 0 c
  else ⟨(4 * (j / 8 % 2) + 2 * (1 - hy c) + j / 16) % 8, Nat.mod_lt _ (by decide)⟩

/-- Device `c`'s input at row `r`, column `k`. -/
def Xf (c : Dev nD) (r k : Nat) : Elt F .f32 :=
  m ((c : Thread nD τ).loc main_arg0) (ix3 (0 : Fin 1) (⟨r % 8192, Nat.mod_lt _ (by decide)⟩ : Fin 8192) (⟨k % 2048, Nat.mod_lt _ (by decide)⟩ : Fin 2048))
/-- The same cast to `bf16`. -/
def Xb (c : Dev nD) (r k : Nat) : Elt F .bf16 := FloatOps.truncf (F := F) .bf16 bitsLt_bf16_f32 (Xf m c r k)
/-- What `rbuf` comes to hold: chunk `j`'s rows of the sender's input, in the columns `c` keeps. -/
def Rf (c : Dev nD) (j r k : Nat) : Elt F .bf16 := Xb m (srcDev c j) (256 * j + r) (1024 * hy c + k)
/-- The result. -/
def OUTf (c : Dev nD) (r k : Nat) : Elt F .bf16 := FloatOps.addf (F := F) (φ := .bf16) (Xb m c r (1024 * hy c + k)) (Rf m c (r / 256) (r % 256) k)

/-- `rbuf`, full. -/
def RB (c : Dev nD) : Buf (Elt F) ((c : Thread nD τ).loc cc0_scratch0) := fun i => Rf m c (i 0).val (i 1).val (i 2).val
/-- The send buffer, full. -/
def YS (c : Dev nD) : Buf (Elt F) ((c : Thread nD τ).loc cc0_scratch1) :=
  fun i => Xb m c (256 * (rowIn 0 ((i 0).val / 2) c.val + (i 0).val % 2) + (i 1).val) (1024 * colIn 0 c.val + (i 2).val)
/-- A staging buffer with group `t`: `b = 0` to be sent, `b = 1` to be kept. -/
def STf (c : Dev nD) (b t : Nat) (i : S2x512x1024.Idx) : Elt F .f32 :=
  Xf m c (256 * rowIn b t c.val + (i 1).val) (1024 * colIn b c.val + (i 2).val)
/-- The staging buffer of what is sent, with group `t`. -/
def STS (c : Dev nD) (t : Fin 6) : Buf (Elt F) ((c : Thread nD τ).loc cc0_scratch2) := STf m c 0 t.val
/-- The staging buffer of what is kept, with group `t`. -/
def STK (c : Dev nD) (t : Fin 16) : Buf (Elt F) ((c : Thread nD τ).loc cc0_scratch3) := STf m c 1 t.val
/-- The output buffer, with block `oc`. -/
def OB (c : Dev nD) (oc : Fin 16) : Buf (Elt F) ((c : Thread nD τ).loc cc0_scratch4) := fun i => OUTf m c (256 * rowIn 1 oc.val c.val + (i 1).val) (i 2).val
/-- The result, written. -/
def OUT (c : Dev nD) : Buf (Elt F) ((c : Thread nD τ).loc main_v1) := fun i => OUTf m c (i 0).val (i 1).val

/-! ## Pieces of the buffers -/

/-- A share of the input on a set of indices. -/
def xP (c : Dev nD) (q : PosShare TreeShare) (I : Finset S1x8192x2048.Idx) : sProp 𝕄 :=
  ((c : Thread nD τ).loc main_arg0) ↦[I]{q} m ((c : Thread nD τ).loc main_arg0)
/-- A share of chunk `j` of `rbuf`. -/
def rbP (c : Dev nD) (j : Nat) (q : PosShare TreeShare) (f : Buf (Elt F) ((c : Thread nD τ).loc cc0_scratch0)) : sProp 𝕄 :=
  ((c : Thread nD τ).loc cc0_scratch0) ↦[pg j]{q} f
/-- Chunk `i` of the send buffer. -/
def ysP (c : Dev nD) (i : Nat) (f : Buf (Elt F) ((c : Thread nD τ).loc cc0_scratch1)) : sProp 𝕄 :=
  ((c : Thread nD τ).loc cc0_scratch1) ↦[pg i]{fullShare} f
/-- Slot `s` of the staging buffer of what is sent. -/
def ssP (c : Dev nD) (s : Nat) (f : Buf (Elt F) ((c : Thread nD τ).loc cc0_scratch2)) : sProp 𝕄 :=
  ((c : Thread nD τ).loc cc0_scratch2) ↦[pg s]{fullShare} f
/-- Slot `s` of the staging buffer of what is kept. -/
def skP (c : Dev nD) (s : Nat) (f : Buf (Elt F) ((c : Thread nD τ).loc cc0_scratch3)) : sProp 𝕄 :=
  ((c : Thread nD τ).loc cc0_scratch3) ↦[pg s]{fullShare} f
/-- Half `h` of output slot `s`. -/
def obP (c : Dev nD) (s h : Nat) (f : Buf (Elt F) ((c : Thread nD τ).loc cc0_scratch4)) : sProp 𝕄 :=
  ((c : Thread nD τ).loc cc0_scratch4) ↦[hf s h]{fullShare} f
/-- Output slot `s`. -/
def obW (c : Dev nD) (s : Nat) (f : Buf (Elt F) ((c : Thread nD τ).loc cc0_scratch4)) : sProp 𝕄 :=
  ((c : Thread nD τ).loc cc0_scratch4) ↦[pg s]{fullShare} f
/-- Block `k` of the result. -/
def oP (c : Dev nD) (k : Nat) (f : Buf (Elt F) ((c : Thread nD τ).loc main_v1)) : sProp 𝕄 :=
  ((c : Thread nD τ).loc main_v1) ↦[blk k]{fullShare} f

/-- The share of the input a staging slot reads with. -/
def xsh (b s : Fin 2) : PosShare TreeShare :=
  match b, s with
  | 0, 0 => fullShare.left.left | 0, 1 => fullShare.left.right | 1, 0 => fullShare.right.left | 1, 1 => fullShare.right.right
/-- The share of an arrived chunk: the first is lent to a send along `x`, the second to one along `z`, the third read. -/
def pcs (w : Fin 3) : PosShare TreeShare := match w with | 0 => fullShare.left | 1 => fullShare.right.left | 2 => fullShare.right.right

/-! ## Slots -/

/-- The arrived chunk that a send of slot `a` forwards, -/
def srcArr (a : Fin 32) : Fin 32 :=
  ⟨bif Nat.blt a.val 12 then a.val else bif Nat.blt a.val 20 then a.val - 12 else bif Nat.blt a.val 22 then a.val + 2 else
    bif Nat.blt a.val 30 then a.val - 22 else a.val - 16, by revert a; decide⟩
/-- and the share of it that is lent. -/
def lent (a : Fin 32) : Fin 3 := if a.val < 22 then 0 else 1
/-- The slot that half `h` of output block `oc` adds. -/
def addSlot (oc : Fin 16) (h : Fin 2) : Fin 32 :=
  ⟨(match role oc.val with
    | 0 => cz oc.val + h.val | 1 => 12 + cz oc.val + h.val | 2 => 22 + cz oc.val + h.val
    | _ => bif Nat.ble 4 (cz oc.val) then 4 + cz oc.val + h.val else bif Nat.ble 2 (cz oc.val) then 28 + cz oc.val + h.val else 20 + cz oc.val + h.val) % 32,
    Nat.mod_lt _ (by decide)⟩

/-- A neighbour's neighbour on the same axis is the device. -/
theorem nbr_nbr : ∀ (k : Fin 3) (c : Dev nD), nbr k (nbr k c) = c := by decide +kernel
/-- A slot's chunk is one of 32. -/
theorem jr_lt : ∀ (a : Fin 32) (c : Dev nD), jr a.val c.val < 32 := by decide +kernel
/-- A forwarded chunk keeps its number. -/
theorem jr_src : ∀ (a : Fin 32) (c : Dev nD), ¬ a.val < 12 → jr a.val (nbr (axis a) c).val = jr (srcArr a).val c.val := by decide +kernel
/-- The chunk that an add reads is the one its slot received. -/
theorem jr_add : ∀ (oc : Fin 16) (h : Fin 2) (c : Dev nD), rowIn 1 oc.val c.val + h.val = jr (addSlot oc h).val c.val := by decide +kernel
/-- A forwarded chunk is, on the neighbour, what the neighbour needs: both have the same source and the same half. -/
theorem src_fwd : ∀ (a : Fin 32) (c : Dev nD), ¬ a.val < 12 →
    srcDev (nbr (axis a) c) (jr (srcArr a).val c.val) = srcDev c (jr (srcArr a).val c.val) ∧ hy (nbr (axis a) c) = hy c := by decide +kernel
/-- A chunk sent along `y` is this device's rows in the columns that the neighbour keeps. -/
theorem src_own : ∀ (a : Fin 12) (c : Dev nD), srcDev (nbr 0 c) (jr a.val (nbr 0 c).val) = c
    ∧ rowIn 0 (a.val / 2) c.val + a.val % 2 = jr a.val (nbr 0 c).val ∧ colIn 0 c.val = hy (nbr 0 c) := by decide +kernel
/-- The first twelve slots are sent along `y`. -/
theorem axis_up : ∀ i : Fin 12, axis (up i) = 0 := by decide

/-! ## The cells -/

/-- What a semaphore is for. -/
inductive CK where
  | bar | send (a : Fin 32) | recv (a : Fin 32) | other
deriving DecidableEq

/-- A number below 32. -/
def m32 (n : Nat) : Fin 32 := ⟨n % 32, Nat.mod_lt _ (by decide)⟩
/-- What DMA semaphore `q` is for. -/
def ckDma (q : Nat) : CK :=
  bif Nat.blt q 8 then .other else bif Nat.blt q 20 then .send (m32 (q - 8)) else bif Nat.blt q 32 then .recv (m32 (q - 20)) else
  bif Nat.blt q 42 then .send (m32 (q - 20)) else bif Nat.blt q 52 then .recv (m32 (q - 30)) else
  bif Nat.blt q 62 then .send (m32 (q - 30)) else .recv (m32 (q - 40))
/-- What each semaphore is for. -/
def ck : SemLoc sig → CK
  | .reg _ => .bar
  | .dma q => ckDma q.val

/-- Slot `a`'s send semaphore is for its send. -/
theorem ck_send : ∀ a : Fin 32, ck (.dma (sSend a)) = .send a := by decide
/-- Slot `a`'s receive semaphore is for its arrival. -/
theorem ck_recv : ∀ a : Fin 32, ck (.dma (sRecv a)) = .recv a := by decide
/-- The regular semaphore is the barrier's. -/
theorem ck_bar : ck (.reg barS) = .bar := rfl

/-- Device `c`'s barrier cell, -/
abbrev barC (c : Dev nD) : GSem nD τ sig := ((c : Thread nD τ), .reg barS)
/-- its send cell of slot `a`, -/
abbrev sendC (c : Dev nD) (a : Fin 32) : GSem nD τ sig := ((c : Thread nD τ), .dma (sSend a))
/-- and its receive cell of slot `a`. -/
abbrev recvC (c : Dev nD) (a : Fin 32) : GSem nD τ sig := ((c : Thread nD τ), .dma (sRecv a))

/-- What a transfer of a chunk credits. -/
abbrev N : ℕ := (ysWin 0).view.dmaCredit
/-- A chunk's credit is positive. -/
theorem N_pos : 0 < N := View.dmaCredit_pos _ (by decide)

/-- The chunk of device `nbr (axis a) c`'s `rbuf` that `c` fills. -/
def dstTok (c : Dev nD) (a : Fin 32) : sProp 𝕄 :=
  iprop(∃ f, rbP (F := F) (nbr (axis a) c) (jr a.val (nbr (axis a) c).val) fullShare f)
/-- What the signal of `c`'s neighbour on axis `k` hands `c`: the chunks that `c` fills there. -/
def barPay (c : Dev nD) (k : Fin 3) : sProp 𝕄 := bigSep (Finset.univ.filter fun a : Fin 32 => axis a = k) fun a => dstTok (F := F) c a
/-- What a send's read-out hands back: the chunk it read. -/
def sendPay (c : Dev nD) (a : Fin 32) : sProp 𝕄 :=
  if a.val < 12 then ysP c a.val (YS m c) else rbP c (jr (srcArr a).val c.val) (pcs (lent a)) (RB m c)
/-- What an arrival hands over: the chunk filled. -/
def recvPay (c : Dev nD) (a : Fin 32) : sProp 𝕄 := rbP c (jr a.val c.val) fullShare (RB m c)

/-- One round: a barrier cell has three duties of a unit, one of each neighbour; a send or receive cell one duty,
    of a chunk's credit. -/
def rd : Rounds.Schedule (GSem nD τ sig) (Fin 3) 𝕄 where
  duties g r := if r = 0 ∧ g.1.2 = .tc then (match ck g.2 with | .bar => Finset.univ | .other => ∅ | _ => {0}) else ∅
  unitless _ := False
  amount g _ _ := match ck g.2 with | .bar => 1 | _ => N
  payload g _ d := match ck g.2 with
    | .bar => barPay g.1.1 d | .send a => sendPay m g.1.1 a | .recv a => recvPay m g.1.1 a | .other => iprop(emp)
  amount_pos g _ _ _ := by
    split
    · exact Nat.one_pos
    · exact N_pos

omit [FloatOps F] in
instance rbP_st (c : Dev nD) (j : Nat) (q) (f) : BI.Storable (upEmb : UEmb _ 𝕄) (rbP (F := F) c j q f) := by unfold rbP; infer_instance
omit [FloatOps F] in
instance ysP_st (c : Dev nD) (j : Nat) (f) : BI.Storable (upEmb : UEmb _ 𝕄) (ysP (F := F) c j f) := by unfold ysP; infer_instance
omit [FloatOps F] in
instance dstTok_st (c : Dev nD) (a) : BI.Storable (upEmb : UEmb _ 𝕄) (dstTok (F := F) c a) := by unfold dstTok; infer_instance

instance rd_st (g : GSem nD τ sig) (r : ℕ) (d : Fin 3) : BI.Storable (upEmb : UEmb _ 𝕄) ((rd m).payload g r d) := by
  show BI.Storable upEmb (match ck g.2 with
    | .bar => barPay g.1.1 d | .send a => sendPay m g.1.1 a | .recv a => recvPay m g.1.1 a | .other => iprop(emp))
  unfold barPay sendPay recvPay
  (repeat' split) <;> infer_instance

section Sched
variable (c : Dev nD) (a : Fin 32)

/-- The barrier cell's round has three duties. -/
theorem duties_bar : (rd m).duties (barC c) 0 = Finset.univ := by dsimp only [rd]; exact if_pos ⟨rfl, rfl⟩
/-- A send cell's round has one duty. -/
theorem duties_send : (rd m).duties (sendC c a) 0 = {0} := by dsimp only [rd]; rw [if_pos ⟨rfl, rfl⟩, ck_send]
/-- A receive cell's round has one duty. -/
theorem duties_recv : (rd m).duties (recvC c a) 0 = {0} := by dsimp only [rd]; rw [if_pos ⟨rfl, rfl⟩, ck_recv]
/-- There is only the first round. -/
theorem duties_later (g : GSem nD τ sig) : ∀ r, 1 ≤ r → (rd m).duties g r = ∅ := fun r hr => by dsimp only [rd]; rw [if_neg fun h => by omega]
/-- A signal is worth one unit. -/
theorem amount_bar (d : Fin 3) : (rd m).amount (barC c) 0 d = 1 := rfl
/-- A send's read-out is worth a chunk's credit. -/
theorem amount_send (d : Fin 3) : (rd m).amount (sendC c a) 0 d = N := by dsimp only [rd]; rw [ck_send]
/-- An arrival is worth a chunk's credit. -/
theorem amount_recv (d : Fin 3) : (rd m).amount (recvC c a) 0 d = N := by dsimp only [rd]; rw [ck_recv]
/-- What a signal hands over. -/
theorem payload_bar (d : Fin 3) : (rd m).payload (barC c) 0 d = barPay c d := rfl
/-- What a send's read-out hands over. -/
theorem payload_send (d : Fin 3) : (rd m).payload (sendC c a) 0 d = sendPay m c a := by dsimp only [rd]; rw [ck_send]
/-- What an arrival hands over. -/
theorem payload_recv (d : Fin 3) : (rd m).payload (recvC c a) 0 d = recvPay m c a := by dsimp only [rd]; rw [ck_recv]
/-- The barrier's round is three units. -/
theorem expect_bar : (rd m).expect (barC c) 0 = 3 := by
  unfold Schedule.expect Schedule.amountOf
  rw [duties_bar, Finset.sum_congr rfl fun d _ => amount_bar m c d]; rfl
/-- A send cell's round is a chunk's credit. -/
theorem expect_send : (rd m).expect (sendC c a) 0 = N := by
  unfold Schedule.expect Schedule.amountOf; rw [duties_send, Finset.sum_singleton, amount_send]
/-- A receive cell's round is a chunk's credit. -/
theorem expect_recv : (rd m).expect (recvC c a) 0 = N := by
  unfold Schedule.expect Schedule.amountOf; rw [duties_recv, Finset.sum_singleton, amount_recv]
/-- The barrier's wait hands over all chunks that the device fills on its neighbours. -/
theorem rest_bar : bigSep ((rd m).duties (barC c) 0 \ ∅) (fun d => (rd m).payload (barC c) 0 d) = (bigSep Finset.univ fun a : Fin 32 => dstTok c a : sProp 𝕄) := by
  rw [Finset.sdiff_empty, duties_bar]
  show bigSep Finset.univ (fun d : Fin 3 => barPay c d) = _
  unfold barPay
  rw [bigSep_fiberwise Finset.univ axis, show (Finset.univ : Finset (Fin 32)).image axis = Finset.univ from by decide]
/-- A send cell's wait hands over the send's payload. -/
theorem rest_send : bigSep ((rd m).duties (sendC c a) 0 \ ∅) (fun d => (rd m).payload (sendC c a) 0 d) = sendPay m c a := by
  rw [Finset.sdiff_empty, duties_send, bigSep_singleton, payload_send]
/-- A receive cell's wait hands over the arrival's payload. -/
theorem rest_recv : bigSep ((rd m).duties (recvC c a) 0 \ ∅) (fun d => (rd m).payload (recvC c a) 0 d) = recvPay m c a := by
  rw [Finset.sdiff_empty, duties_recv, bigSep_singleton, payload_recv]
end Sched

/-! ## Levels and debts -/

/-- The level of a cell: a chunk's arrival lies above what its sender has to wait for first. -/
def lvr (a : Nat) : Nat := bif Nat.blt a 12 then 2 else bif Nat.beq a 20 || Nat.beq a 21 || Nat.beq a 30 || Nat.beq a 31 then 4 else 3
/-- The barrier lies at the first level, arrivals above it, all else at the bottom. -/
def lvk : CK → Nat | .bar => 1 | .recv a => lvr a.val | _ => 0
/-- Every cell of a TensorCore has a level, -/
def L (g : GSem nD τ sig) : Finset Unit := if g.1.2 = .tc then {()} else ∅
/-- which is its kind's. -/
def lv (g : GSem nD τ sig) (_ : Unit) : ℕ := lvk (ck g.2)

/-- No other cell has one. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- What an instruction still to come owes: the cell and the units. -/
def due (c : Dev nD) : Ins → Option (GSem nD τ sig × ℕ)
  | .sig k => some (barC (nbr k c), 1)
  | .sendY i => some (recvC (nbr (axis (up i)) c) (up i), N)
  | .send a => some (recvC (nbr (axis a) c) a, N)
  | _ => none
/-- Its level. -/
def dueLv : Ins → Option ℕ
  | .sig _ => some 1 | .sendY i => some (lvr (up i).val) | .send a => some (lvr a.val) | _ => none
/-- What the instructions of a list owe. -/
def debt (c : Dev nD) : List Ins → CellTallies nD τ sig Unit
  | [] => 0
  | i :: is => match due c i with | some (g, n) => debt c is + tallyAt g () n | none => debt c is

/-- Every debt of the list lies above level `b`. -/
def above (b : Nat) : List Ins → Bool
  | [] => true
  | i :: is => (match dueLv i with | some n => Nat.blt b n | none => true) && above b is

/-- When every debt of a list lies above `b`, a cell that something is owed to does. -/
theorem debt_pos (c : Dev nD) (b : Nat) : ∀ is : List Ins, above b is = true → ∀ (g : GSem nD τ sig) (u : Unit), 0 < debt c is g u →
    g.1.2 = .tc ∧ b < lv g u
  | [], _, g, u, h => absurd h (Nat.lt_irrefl 0)
  | i :: is, ha, g, u, h => by
    rw [above, Bool.and_eq_true] at ha
    have ih := debt_pos c b is ha.2 g u
    have key : ∀ (g' : GSem nD τ sig) (n : ℕ), due c i = some (g', n) → g'.1.2 = .tc ∧ b < lv g' u := by
      intro g' n e
      have h1 := ha.1
      cases i <;> simp only [due, Option.some.injEq, Prod.mk.injEq, reduceCtorEq] at e
      all_goals
        obtain ⟨rfl, rfl⟩ := e
        refine ⟨rfl, ?_⟩
        simp only [dueLv, Nat.blt_eq] at h1
      · exact h1
      · show b < lvk (ck _); rw [ck_recv]; exact h1
      · show b < lvk (ck _); rw [ck_recv]; exact h1
    rw [debt] at h
    cases hd : due c i with
    | none => rw [hd] at h; exact ih h
    | some p =>
      obtain ⟨g', n⟩ := p
      rw [hd] at h
      simp only [Pi.add_apply, Finsupp.add_apply] at h
      by_cases e : g = g'
      · subst e; exact key _ _ hd
      · rw [tallyAt_ne_cell e, Finsupp.zero_apply, Nat.add_zero] at h; exact ih h

omit [FloatOps F] in
/-- A wait at level at most `b` is allowed while every debt lies above `b`. -/
theorem mayWait (c : Dev nD) (sm : SemLoc sig) (b : Nat) (hb : lvk (ck sm) ≤ b) (is : List Ins) (h : above b is = true) :
    (levAts L lv : sProp 𝕄) ⊢ MayWait (c : Thread nD τ) sm () (debt c is) :=
  MayOwe.of_cut (L := L) (lev := lv) b (fun p hp => by rw [Finset.mem_singleton.mp hp, L_tc]; exact Finset.mem_singleton_self _)
    (fun g u hg => by unfold L; rw [if_pos (debt_pos c b is h g u hg).1]; exact Finset.mem_singleton_self _)
    (fun p hp => by rw [Finset.mem_singleton.mp hp]; exact hb)
    (fun g u hg => (debt_pos c b is h g u hg).2)

/-! ## What a device holds -/

/-- The cells: of each device the barrier's, the sends' and the arrivals'. -/
abbrev Cells : Type := Dev nD × (Unit ⊕ (Fin 32 ⊕ Fin 32))
/-- The cell of an index. -/
def cell : Cells → GSem nD τ sig
  | (c, .inl _) => barC c | (c, .inr (.inl a)) => sendC c a | (c, .inr (.inr a)) => recvC c a
/-- What the invariants of all cells, under the names `K`, and the levels say. -/
def records (K : Cells → ℕ) : sProp 𝕄 :=
  iprop((bigSep Finset.univ fun x : Cells => cellInv EB (rd m) (K x) (cell x)) ∗ (bigSep Finset.univ fun x : Cells => reached EB (cell x) 0) ∗ levAts L lv)
instance records_pers (K : Cells → ℕ) : BI.Persistent (records m K) := by unfold records; infer_instance

/-- The owner's position at a cell before its round, -/
def pos (g : GSem nD τ sig) : sProp 𝕄 := atPos EB g 0 ∅ 0

/-- The pieces of state.  A staging slot (`S` for what is sent, `K` for what is kept) is idle, being filled, or full; a
    chunk of the send buffer free or full; a share of an arrived chunk; a half of an output slot free or full; an
    output block not yet written, being written, or written; and for the cells: duties to pay, positions, credits, and
    counters back at zero. -/
inductive Tok where
  | idleS (s : Fin 2) | flyS (t : Fin 6) | fullS (t : Fin 6)
  | idleK (s : Fin 2) | flyK (t : Fin 16) | fullK (t : Fin 16)
  | yFree (i : Fin 12) | yFull (i : Fin 12)
  | gift (k : Fin 3) | bDuty (k : Fin 3) | bPos | clB
  | dst (a : Fin 32) | duty (a : Fin 32)
  | rPos (a : Fin 32) | clR (a : Fin 32) | pc (a : Fin 32) (w : Fin 3)
  | sPos (a : Fin 32) | sCred (a : Fin 32) | clS (a : Fin 32)
  | oFree (s : Fin 4) (h : Fin 2) | oFull (oc : Fin 16) (h : Fin 2)
  | wFree (oc : Fin 16) | oFly (oc : Fin 16) | wDone (oc : Fin 16) | oSem (s : Fin 4)
deriving DecidableEq

/-- The windows of the input. -/
abbrev xS (c : Dev nD) (t : Fin 6) : Finset S1x8192x2048.Idx := (xWin (offIn 0 t.val c) (inbIn0 t c)).view.set
/-- The window that group `t` to be kept is staged from. -/
abbrev xK (c : Dev nD) (t : Fin 16) : Finset S1x8192x2048.Idx := (xWin (offIn 1 t.val c) (inbIn1 t c)).view.set
/-- What a stage credits. -/
abbrev NS : ℕ := (stWin SSm 0).view.dmaCredit
/-- What a stage of what is kept credits. -/
abbrev NK : ℕ := (stWin SKm 0).view.dmaCredit
/-- What a write-back credits. -/
abbrev NO : ℕ := (obWin 0).view.dmaCredit
/-- A stage's credit is positive, -/
theorem NS_pos : 0 < NS := View.dmaCredit_pos _ (by decide)
/-- for what is kept too, -/
theorem NK_pos : 0 < NK := View.dmaCredit_pos _ (by decide)
/-- and so is a write-back's. -/
theorem NO_pos : 0 < NO := View.dmaCredit_pos _ (by decide)

/-- The chunk of the output (of 512 rows) that block `oc` is. -/
def ob2 (c : Dev nD) (oc : Fin 16) : Nat := rowIn 1 oc.val c.val / 2
/-- A write-back goes to a whole block. -/
theorem ob2_eq : ∀ (oc : Fin 16) (c : Dev nD), offOut oc.val c = ![512 * ob2 c oc, 0] := by decide +kernel
/-- The block's first row. -/
theorem ob2_row : ∀ (oc : Fin 16) (c : Dev nD), 256 * rowIn 1 oc.val c.val = 512 * ob2 c oc := by decide +kernel

/-- What a piece of state owns. -/
def den (c : Dev nD) : Tok → sProp 𝕄
  | .idleS s => iprop((∃ f, ssP c s.val f) ∗ xP m c (xsh 0 s) Finset.univ ∗ semVal ((c : Thread nD τ), .dma (ssS s)) 0)
  | .flyS t => iprop(Transfers.Flight EC (c : Thread nD τ) (.dma (ssS (sl2 t))) () NS iprop(ssP c (sl2 t).val (STS m c t) ∗ xP m c (xsh 0 (sl2 t)) (xS c t))
      ∗ xP m c (xsh 0 (sl2 t)) (Finset.univ \ xS c t))
  | .fullS t => iprop(ssP c (sl2 t).val (STS m c t) ∗ xP m c (xsh 0 (sl2 t)) Finset.univ ∗ semVal ((c : Thread nD τ), .dma (ssS (sl2 t))) 0)
  | .idleK s => iprop((∃ f, skP c s.val f) ∗ xP m c (xsh 1 s) Finset.univ ∗ semVal ((c : Thread nD τ), .dma (ssK s)) 0)
  | .flyK t => iprop(Transfers.Flight EC (c : Thread nD τ) (.dma (ssK (sl2 t))) () NK iprop(skP c (sl2 t).val (STK m c t) ∗ xP m c (xsh 1 (sl2 t)) (xK c t))
      ∗ xP m c (xsh 1 (sl2 t)) (Finset.univ \ xK c t))
  | .fullK t => iprop(skP c (sl2 t).val (STK m c t) ∗ xP m c (xsh 1 (sl2 t)) Finset.univ ∗ semVal ((c : Thread nD τ), .dma (ssK (sl2 t))) 0)
  | .yFree i => iprop(∃ f, ysP c i.val f)
  | .yFull i => ysP c i.val (YS m c)
  | .gift k => barPay (nbr k c) k
  | .bDuty k => dutyTok EB (barC (nbr k c)) 0 k
  | .bPos => iprop(pos (barC c) ∗ cred (tallyAt (barC c) () 3))
  | .clB => semVal (barC c) 0
  | .dst a => dstTok c a
  | .duty a => iprop(dutyTok EB (sendC c a) 0 0 ∗ dutyTok EB (recvC (nbr (axis a) c) a) 0 0)
  | .rPos a => iprop(pos (recvC c a) ∗ cred (tallyAt (recvC c a) () N))
  | .clR a => semVal (recvC c a) 0
  | .pc a w => rbP c (jr a.val c.val) (pcs w) (RB m c)
  | .sPos a => pos (sendC c a)
  | .sCred a => cred (tallyAt (sendC c a) () N)
  | .clS a => semVal (sendC c a) 0
  | .oFree s h => iprop(∃ f, obP c s.val h.val f)
  | .oFull oc h => obP c (sl4 oc).val h.val (OB m c oc)
  | .wFree oc => iprop(∃ f, oP c (ob2 c oc) f)
  | .oFly oc => Transfers.Flight EC (c : Thread nD τ) (.dma (ssO (sl4 oc))) () NO iprop(oP c (ob2 c oc) (OUT m c) ∗ obW c (sl4 oc).val (OB m c oc))
  | .wDone oc => oP c (ob2 c oc) (OUT m c)
  | .oSem s => semVal ((c : Thread nD τ), .dma (ssO s)) 0

/-- A list of pieces. -/
def dens (c : Dev nD) (ts : List Tok) : sProp 𝕄 := ts.foldr (fun t R => iprop(den m c t ∗ R)) iprop(emp)

/-- The core's debts, whatever it has waited on. -/
def owesW (c : Dev nD) (O : CellTallies nD τ sig Unit) : sProp 𝕄 := iprop(∃ W, owes (c : Thread nD τ) O W)

end Cert.RS
-- ==== Proof.Steps.lean ====
/-
  One instruction at a time.  For each kind of instruction, what pieces of state it takes (`pre`), what it
  leaves (`post`), and that the machine runs it from the one to the other, paying what it owes.
-/
module

public import proofs.«01_k».proof.Proof.Common

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-- Running a program of the body on device `c`. -/
abbrev wpc (c : Dev nD) (p : P F) (Q : PUnit → sProp 𝕄) : sProp 𝕄 :=
  wp frame (wpE (defs₀ (F := F)) 𝒱₀ (c : Thread nD τ) none) Set.univ p Q

/-! ## The pieces an instruction takes and leaves -/

/-- The pieces an instruction needs, -/
def pre : Ins → List Tok
  | .sig k => [.bDuty k, .gift k]
  | .barWait => [.bPos]
  | .stageS t => [if t.val < 2 then .idleS (sl2 t) else .fullS ⟨t.val - 2, by have := t.2; omega⟩]
  | .waitS t => [.flyS t]
  | .cast i => [.fullS (grp i), .yFree i]
  | .sendY i => [.yFull i, .duty (up i), .dst (up i)]
  | .send a => [.pc (srcArr a) (lent a), .duty a, .dst a]
  | .recv a => [.rPos a]
  | .stageK t => [if t.val < 2 then .idleK (sl2 t) else .fullK ⟨t.val - 2, by have := t.2; omega⟩]
  | .waitK t => [.flyK t]
  | .half oc h => [.fullK oc, .pc (addSlot oc h) 2, .oFree (sl4 oc) h]
  | .outS oc => [.oFull oc 0, .oFull oc 1, .wFree oc, .oSem (sl4 oc)]
  | .outW oc => [.oFly oc]
  | .doneY i => [.sCred (up i), .sPos (up i)]
  | .done a => [.sCred a, .sPos a]
/-- and those it leaves in their place. -/
def post : Ins → List Tok
  | .sig _ => []
  | .barWait => .clB :: (List.finRange 32).map .dst
  | .stageS t => [.flyS t]
  | .waitS t => [.fullS t]
  | .cast i => [.fullS (grp i), .yFull i]
  | .sendY i => [.sCred (up i)]
  | .send a => [.sCred a]
  | .recv a => [.clR a, .pc a 0, .pc a 1, .pc a 2]
  | .stageK t => [.flyK t]
  | .waitK t => [.fullK t]
  | .half oc h => [.fullK oc, .pc (addSlot oc h) 2, .oFull oc h]
  | .outS oc => [.oFly oc]
  | .outW oc => [.oFree (sl4 oc) 0, .oFree (sl4 oc) 1, .wDone oc, .oSem (sl4 oc)]
  | .doneY i => [.clS (up i), .yFull i]
  | .done a => [.clS a, .pc (srcArr a) (lent a)]
/-- A wait waits below every debt that remains; only arrived chunks are forwarded. -/
def ok : Ins → List Ins → Bool
  | .barWait, is => above 1 is
  | .recv a, is => above (lvr a.val) is
  | .waitS _, is | .waitK _, is | .outW _, is | .doneY _, is => above 0 is
  | .send a, _ => Nat.ble 12 a.val
  | .done a, is => Nat.ble 12 a.val && above 0 is
  | _, _ => true

/-- Instruction `i`, the list `is` to follow. -/
def Step (K : Cells → ℕ) (c : Dev nD) (i : Ins) (is : List Ins) : Prop :=
  ∀ (kk : P F) (Q : PUnit → sProp 𝕄),
    iprop(records m K ∗ dens m c (pre i) ∗ owesW c (debt c (i :: is)))
      ⊢ iprop((iprop(dens m c (post i) ∗ owesW c (debt c is)) -∗ wpc c kk Q) -∗ wpc c (run c i >>= fun _ => kk) Q)

/-! ## What the records say -/

/-- The records hold every cell's invariant, -/
theorem rec_inv (K : Cells → ℕ) (x : Cells) : records m K ⊢ cellInv EB (rd m) (K x) (cell x) := by
  have h : bigSep Finset.univ (fun x : Cells => cellInv EB (rd m) (K x) (cell x)) ⊢ cellInv EB (rd m) (K x) (cell x) := bigSep_elim (Finset.mem_univ x)
  unfold records; iintro ⟨H, -, -⟩; iapply h $$ H
/-- that its first round is reached, -/
theorem rec_reach (K : Cells → ℕ) (x : Cells) : records m K ⊢ reached EB (cell x) 0 := by
  have h : bigSep Finset.univ (fun x : Cells => (reached EB (cell x) 0 : sProp 𝕄)) ⊢ reached EB (cell x) 0 := bigSep_elim (Finset.mem_univ x)
  unfold records; iintro ⟨-, H, -⟩; iapply h $$ H
/-- and the levels. -/
theorem rec_lev (K : Cells → ℕ) : records m K ⊢ levAts L lv := by
  unfold records; iintro ⟨-, -, H⟩; iexact H

/-! ## The pieces as the machine names them -/

omit [FloatOps F] in
/-- A page of `rbuf` is the window's ownership. -/
theorem rb_pt (c : Dev nD) (o) (h) (j : Nat) (ho : o = ![j, 0, 0]) (q) (f) :
    ((rbWin o h).view.loc (c : Thread nD τ) ↦[(rbWin o h).view.set]{q} f : sProp 𝕄) = rbP c j q f := by
  unfold rbP; rw [rb_set o h j ho]
omit [FloatOps F] in
/-- A page of the send buffer is the window's ownership. -/
theorem ys_pt (c : Dev nD) (i : Fin 12) (f) :
    ((ysWin i).view.loc (c : Thread nD τ) ↦[(ysWin i).view.set]{fullShare} f : sProp 𝕄) = ysP c i.val f := by
  unfold ysP; rw [ys_set]
omit [FloatOps F] in
/-- A slot of what is sent is the window's ownership. -/
theorem ss_pt (c : Dev nD) (s : Fin 2) (f) :
    ((stWin SSm s).view.loc (c : Thread nD τ) ↦[(stWin SSm s).view.set]{fullShare} f : sProp 𝕄) = ssP c s.val f := by
  unfold ssP; rw [ss_set]
omit [FloatOps F] in
/-- A slot of what is kept is the window's ownership. -/
theorem sk_pt (c : Dev nD) (s : Fin 2) (f) :
    ((stWin SKm s).view.loc (c : Thread nD τ) ↦[(stWin SKm s).view.set]{fullShare} f : sProp 𝕄) = skP c s.val f := by
  unfold skP; rw [sk_set]
omit [FloatOps F] in
/-- An output slot is the window's ownership. -/
theorem ob_pt (c : Dev nD) (s : Fin 4) (f) :
    ((obWin s).view.loc (c : Thread nD τ) ↦[(obWin s).view.set]{fullShare} f : sProp 𝕄) = obW c s.val f := by
  unfold obW; rw [ob_set]
omit [FloatOps F] in
/-- A block of the result is the window's ownership. -/
theorem o_pt (c : Dev nD) (o) (h) (k : Nat) (ho : o = ![512 * k, 0]) (f) :
    ((oWin o h).view.loc (c : Thread nD τ) ↦[(oWin o h).view.set]{fullShare} f : sProp 𝕄) = oP c k f := by
  unfold oP; rw [o_set o h k ho]

omit [FloatOps F] in
/-- A window written with what it reads off other contents holds those contents. -/
theorem write_pt {sp : Space} {s : Shape} {e : EltTy} (v : View sig .tc sp s e) (c : Dev nD) (q) (fd g : Buf (Elt F) (v.loc (c : Thread nD τ)))
    (w : s.Idx → Elt F e) (hw : w = v.read (Elt F) g) :
    (v.loc (c : Thread nD τ) ↦[v.set]{q} v.write (Elt F) fd w Finset.univ : sProp 𝕄) = v.loc (c : Thread nD τ) ↦[v.set]{q} g := by
  subst hw
  refine pointsTo_congr fun i hi => ?_
  have h := View.write_read_eq_piecewise (v := v) (Val := Elt F) fd g Finset.univ
  rw [h, View.setOn_univ, Finset.piecewise_eq_of_mem _ _ _ hi]

/-! ## What the windows read -/

/-- What a window of `rbuf` reads. -/
theorem read_rb (c : Dev nD) (o) (h) (j : Nat) (ho : o = ![j, 0, 0]) (x : S256x1024.Idx) :
    (rbWin o h).view.read (Elt F) (RB m c) x = Rf m c j (x 0).val (x 1).val := by
  subst ho
  show Rf m c _ _ _ = _
  erw [page_0, page_1, page_2]
  simp
/-- What a window of the send buffer reads. -/
theorem read_ys (c : Dev nD) (i : Fin 12) (x : S256x1024.Idx) :
    (ysWin i).view.read (Elt F) (YS m c) x
      = Xb m c (256 * (rowIn 0 (i.val / 2) c.val + i.val % 2) + (x 0).val) (1024 * colIn 0 c.val + (x 1).val) := by
  show Xb m c (256 * (rowIn 0 (_ / 2) c.val + _ % 2) + _) (1024 * colIn 0 c.val + _) = _
  erw [page_0, page_1, page_2]
  simp

/-! ## The barrier -/

/-- The signal of a neighbour hands it the chunks that it fills here. -/
theorem step_sig (K : Cells → ℕ) (c : Dev nD) (k : Fin 3) (is : List Ins) : Step m K c (.sig k) is := by
  intro kk Q
  simp only [pre, post, dens, List.foldr, den, owesW]
  iintro ⟨#HR, ⟨Hd, Hg, -⟩, HO⟩ HK
  icases HO with ⟨%W, HO⟩
  ihave #HI := (rec_inv m K (nbr k c, .inl ())) $$ HR
  ihave #Hr := (rec_reach m K (nbr k c, .inl ())) $$ HR
  simp only [run, semSignalWord, devSig_eq, Prog.lift, Prog.bind_op, Prog.bind_ret]
  iapply (Rounds.wp_signal 𝒱₀ EB (rd m) (c : Thread nD τ) none (dst := Dev.tc (nbr k c)) (κ := K (nbr k c, .inl ())) (r := 0) (d := k)
      (by rw [duties_bar]; exact Finset.mem_univ _) (amount_bar m (nbr k c) k) () (debt c is) rfl) $$ [HO Hd Hg]
  · isplitr; · iexact HI
    isplitl [HO]; · iexact HO
    isplitl [Hd]; · iexact Hd
    isplitl [Hg]
    · rw [payload_bar]; iexact Hg
    · iexact Hr
  iintro HO
  iapply HK
  isplitr; · iempintro
  iexists W; iexact HO

/-- A listed conjunction, as a list of pieces. -/
theorem dens_map (c : Dev nD) (l : List (Fin 32)) (hl : l.Nodup) (f : Fin 32 → Tok) (Φ : Fin 32 → sProp 𝕄) (h : ∀ a, den m c (f a) = Φ a) :
    dens m c (l.map f) = bigSep l.toFinset Φ := by
  induction l with
  | nil => rfl
  | cons a l ih =>
    rw [List.nodup_cons] at hl
    rw [List.toFinset_cons, bigSep_insert (by simpa using hl.1), ← ih hl.2]
    simp only [dens, List.map, List.foldr, h]
    rfl

/-- The barrier's wait hands over the neighbours' chunks that this device fills. -/
theorem step_barWait (K : Cells → ℕ) (c : Dev nD) (is : List Ins) (hok : above 1 is = true) : Step m K c .barWait is := by
  intro kk Q
  simp only [pre, post]
  rw [show dens m c (.clB :: (List.finRange 32).map .dst) = iprop(semVal (barC c) 0 ∗ bigSep Finset.univ fun a : Fin 32 => dstTok (F := F) c a) from by
    show iprop(_ ∗ dens m c ((List.finRange 32).map .dst)) = _
    rw [dens_map m c _ (List.nodup_finRange 32) Tok.dst (fun a => dstTok c a) (fun _ => rfl), List.toFinset_finRange]; rfl]
  simp only [dens, List.foldr, den, owesW]
  iintro ⟨#HR, ⟨⟨Hp, Hc⟩, -⟩, HO⟩ HK
  icases HO with ⟨%W, HO⟩
  ihave #HI := (rec_inv m K (c, .inl ())) $$ HR
  ihave #HL := (rec_lev m K) $$ HR
  simp only [run, semWaitWord, Prog.lift, Prog.bind_op, Prog.bind_ret]
  iapply (Rounds.wp_wait_rest_token 𝒱₀ EB (rd m) (c : Thread nD τ) none (κ := K (c, .inl ())) (wpE_semWait_eq 𝒱₀ (c : Thread nD τ) none Set.univ)
      (Set.mem_univ _) () (O := debt c is) (W := W) (R := 0) (m := 0) (T := ∅) (by rw [Nat.zero_add, expect_bar]; rfl)) $$ [HO Hp Hc]
  · isplitr; · iexact HI
    isplitl [Hc]; · iexact Hc
    isplitl [HO]; · iexact HO
    isplitr
    · iapply (mayWait c (.reg barS) 1 (Nat.le_refl _) is hok) $$ HL
    · unfold pos; iexact Hp
  iintro ⟨HO, Ha, -, Hpay⟩
  ihave Hpay' := (Entails.of_eq (rest_bar m c)) $$ Hpay
  imod (Rounds.cell_close EB (rd m) (Set.mem_univ (K (c, .inl ()))) (fun h => h) (R := 0 + 1) (duties_later m (barC c))) $$ [Ha] with Hsem
  · isplitr; · iexact HI
    iexact Ha
  iapply HK
  isplitl [Hsem Hpay']
  · isplitl [Hsem] <;> iassumption
  iexists _; iexact HO

/-! ## Stages -/

/-- What a window of the input reads. -/
theorem read_x (c : Dev nD) (o) (h) (r k : Nat) (ho : o = ![0, 256 * r, 1024 * k]) (x : S512x1024.Idx) :
    (xWin o h).view.read (Elt F) (m ((c : Thread nD τ).loc main_arg0)) x = Xf m c (256 * r + (x 0).val) (1024 * k + (x 1).val) := by
  subst ho
  show m ((c : Thread nD τ).loc main_arg0) _ = m ((c : Thread nD τ).loc main_arg0) _
  congr 1
  have hx0 : (x 0).val < 512 := (x 0).isLt
  have hx1 : (x 1).val < 1024 := (x 1).isLt
  have h1 : 256 * r + 512 ≤ 8192 := h 1
  have h2 : 1024 * k + 1024 ≤ 2048 := h 2
  funext a
  match a with
  | ⟨0, _⟩ => exact Subsingleton.elim (α := Fin 1) _ _
  | ⟨1, _⟩ =>
    apply Fin.ext
    refine (page_1 _ h _ x).trans ?_
    show 256 * r + (x 0).val = (256 * r + (x 0).val) % 8192
    rw [Nat.mod_eq_of_lt (by omega)]
  | ⟨2, _⟩ =>
    apply Fin.ext
    refine (page_2 _ h _ x).trans ?_
    show 1024 * k + (x 1).val = (1024 * k + (x 1).val) % 2048
    rw [Nat.mod_eq_of_lt (by omega)]
/-- What a staging slot of what is sent reads. -/
theorem read_ss (c : Dev nD) (s : Fin 2) (b t : Nat) (x : S512x1024.Idx) :
    (stWin SSm s).view.read (Elt F) (STf m c b t : Buf (Elt F) ((c : Thread nD τ).loc cc0_scratch2)) x
      = Xf m c (256 * rowIn b t c.val + (x 0).val) (1024 * colIn b c.val + (x 1).val) := by
  show Xf m c (256 * rowIn b t c.val + _) (1024 * colIn b c.val + _) = _
  erw [page_1, page_2]
  simp
/-- What a staging slot of what is kept reads. -/
theorem read_sk (c : Dev nD) (s : Fin 2) (b t : Nat) (x : S512x1024.Idx) :
    (stWin SKm s).view.read (Elt F) (STf m c b t : Buf (Elt F) ((c : Thread nD τ).loc cc0_scratch3)) x
      = Xf m c (256 * rowIn b t c.val + (x 0).val) (1024 * colIn b c.val + (x 1).val) := by
  show Xf m c (256 * rowIn b t c.val + _) (1024 * colIn b c.val + _) = _
  erw [page_1, page_2]
  simp

/-- A slot at any contents, the input's share and the slot's counter. -/
theorem stage_pre_S (c : Dev nD) (t : Fin 6) :
    den m c (if t.val < 2 then .idleS (sl2 t) else .fullS ⟨t.val - 2, by have := t.2; omega⟩)
      ⊢ iprop((∃ f, ssP c (sl2 t).val f) ∗ xP m c (xsh 0 (sl2 t)) Finset.univ ∗ semVal ((c : Thread nD τ), .dma (ssS (sl2 t))) 0) := by
  split
  · exact Entails.rfl
  · have h : sl2 (⟨t.val - 2, by have := t.2; omega⟩ : Fin 6) = sl2 t := by apply Fin.ext; show (t.val - 2) % 2 = t.val % 2; omega
    simp only [den, h]
    iintro ⟨H, H'⟩
    isplitl [H]
    · iexists _; iexact H
    · iexact H'
/-- A copy into a slot of what is kept may start: the copy brings the group's contents. -/
theorem stage_pre_K (c : Dev nD) (t : Fin 16) :
    den m c (if t.val < 2 then .idleK (sl2 t) else .fullK ⟨t.val - 2, by have := t.2; omega⟩)
      ⊢ iprop((∃ f, skP c (sl2 t).val f) ∗ xP m c (xsh 1 (sl2 t)) Finset.univ ∗ semVal ((c : Thread nD τ), .dma (ssK (sl2 t))) 0) := by
  split
  · exact Entails.rfl
  · have h : sl2 (⟨t.val - 2, by have := t.2; omega⟩ : Fin 16) = sl2 t := by apply Fin.ext; show (t.val - 2) % 2 = t.val % 2; omega
    simp only [den, h]
    iintro ⟨H, H'⟩
    isplitl [H]
    · iexists _; iexact H
    · iexact H'

omit [FloatOps F] in
/-- A share of the input is a window of it and the rest, -/
theorem x_split (c : Dev nD) (q) (I : Finset S1x8192x2048.Idx) :
    xP (F := F) m c q Finset.univ ⊢ iprop(xP m c q I ∗ xP m c q (Finset.univ \ I)) := by
  unfold xP; exact (pointsTo_split_subset (Finset.subset_univ _)).1
omit [FloatOps F] in
/-- and these are the share again. -/
theorem x_join (c : Dev nD) (q) (I : Finset S1x8192x2048.Idx) :
    iprop(xP (F := F) m c q I ∗ xP m c q (Finset.univ \ I)) ⊢ xP m c q Finset.univ := by
  unfold xP; exact (pointsTo_split_subset (Finset.subset_univ _)).2

/-- A copy into a slot of what is sent starts. -/
theorem step_stageS (K : Cells → ℕ) (c : Dev nD) (t : Fin 6) (is : List Ins) : Step m K c (.stageS t) is := by
  intro kk Q
  simp only [pre, post, dens, List.foldr]
  iintro ⟨#HR, ⟨Ht, -⟩, HO⟩ HK
  ihave H := (stage_pre_S m c t) $$ Ht
  icases H with ⟨⟨%f, Hs⟩, Hx, Hv⟩
  ihave Hx' := (x_split m c _ (xS c t)) $$ Hx
  icases Hx' with ⟨Hx1, Hx2⟩
  simp only [run, Prog.lift, Prog.bind_op, Prog.bind_ret]
  iapply (Transfers.wp_dmaLocal EC 𝒱₀ (c : Thread nD τ) none (src := xWin (offIn 0 t.val c) (inbIn0 t c)) (dst := stWin SSm (sl2 t))
      (q := xsh 0 (sl2 t)) (fs := m ((c : Thread nD τ).loc main_arg0)) (Sd := (stWin SSm (sl2 t)).view.set) (fd := f) () NS rfl NS_pos (Finset.Subset.refl _)) $$ [Hx1 Hs Hv]
  · isplitl [Hx1]
    · unfold xP; iexact Hx1
    isplitl [Hs]
    · iapply (Entails.of_eq (ss_pt c (sl2 t) f).symm) $$ Hs
    · iexact Hv
  iintro HF
  rw [write_pt (stWin SSm (sl2 t)).view c fullShare f (STS m c t) _ (funext fun x => (read_x m c _ (inbIn0 t c) _ _ (offIn0_eq t c) x).trans (read_ss m c (sl2 t) 0 t.val x).symm), ss_pt]
  iapply HK
  simp only [den]
  isplitr [HO]
  · isplitl
    · isplitl [HF]
      · unfold xP; iexact HF
      · iexact Hx2
    · iempintro
  · iexact HO

/-- A copy into a slot of what is kept starts. -/
theorem step_stageK (K : Cells → ℕ) (c : Dev nD) (t : Fin 16) (is : List Ins) : Step m K c (.stageK t) is := by
  intro kk Q
  simp only [pre, post, dens, List.foldr]
  iintro ⟨#HR, ⟨Ht, -⟩, HO⟩ HK
  ihave H := (stage_pre_K m c t) $$ Ht
  icases H with ⟨⟨%f, Hs⟩, Hx, Hv⟩
  ihave Hx' := (x_split m c _ (xK c t)) $$ Hx
  icases Hx' with ⟨Hx1, Hx2⟩
  simp only [run, Prog.lift, Prog.bind_op, Prog.bind_ret]
  iapply (Transfers.wp_dmaLocal EC 𝒱₀ (c : Thread nD τ) none (src := xWin (offIn 1 t.val c) (inbIn1 t c)) (dst := stWin SKm (sl2 t))
      (q := xsh 1 (sl2 t)) (fs := m ((c : Thread nD τ).loc main_arg0)) (Sd := (stWin SKm (sl2 t)).view.set) (fd := f) () NK rfl NK_pos (Finset.Subset.refl _)) $$ [Hx1 Hs Hv]
  · isplitl [Hx1]
    · unfold xP; iexact Hx1
    isplitl [Hs]
    · iapply (Entails.of_eq (sk_pt c (sl2 t) f).symm) $$ Hs
    · iexact Hv
  iintro HF
  rw [write_pt (stWin SKm (sl2 t)).view c fullShare f (STK m c t) _ (funext fun x => (read_x m c _ (inbIn1 t c) _ _ (offIn1_eq t c) x).trans (read_sk m c (sl2 t) 1 t.val x).symm), sk_pt]
  iapply HK
  simp only [den]
  isplitr [HO]
  · isplitl
    · isplitl [HF]
      · unfold xP; iexact HF
      · iexact Hx2
    · iempintro
  · iexact HO

/-- The wait for a slot of what is sent finds it full. -/
theorem step_waitS (K : Cells → ℕ) (c : Dev nD) (t : Fin 6) (is : List Ins) (hok : above 0 is = true) : Step m K c (.waitS t) is := by
  intro kk Q
  simp only [pre, post, dens, List.foldr, den, owesW]
  iintro ⟨#HR, ⟨⟨Hf, Hx2⟩, -⟩, HO⟩ HK
  icases HO with ⟨%W, HO⟩
  ihave #HL := (rec_lev m K) $$ HR
  simp only [run, Prog.lift, Prog.bind_op, Prog.bind_ret]
  iapply (Transfers.wp_waitLocalO EC 𝒱₀ (c : Thread nD τ) none (dstw := stWin SSm (sl2 t)) () (N := NS) rfl) $$ [Hf HO]
  · isplitl [Hf]; · iexact Hf
    isplitl [HO]; · iexact HO
    iapply (mayWait c (.dma (ssS (sl2 t))) 0 (by generalize sl2 t = s; revert s; decide) is hok) $$ HL
  iintro ⟨⟨Hs, Hx1⟩, Hv, HO⟩
  iapply HK
  isplitr [HO]
  · isplitl
    · isplitl [Hs]; · iexact Hs
      isplitl [Hx1 Hx2]
      · iapply (x_join m c _ (xS c t))
        isplitl [Hx1] <;> iassumption
      · iexact Hv
    · iempintro
  · iexists _; iexact HO

/-- The wait for a slot of what is kept finds it full. -/
theorem step_waitK (K : Cells → ℕ) (c : Dev nD) (t : Fin 16) (is : List Ins) (hok : above 0 is = true) : Step m K c (.waitK t) is := by
  intro kk Q
  simp only [pre, post, dens, List.foldr, den, owesW]
  iintro ⟨#HR, ⟨⟨Hf, Hx2⟩, -⟩, HO⟩ HK
  icases HO with ⟨%W, HO⟩
  ihave #HL := (rec_lev m K) $$ HR
  simp only [run, Prog.lift, Prog.bind_op, Prog.bind_ret]
  iapply (Transfers.wp_waitLocalO EC 𝒱₀ (c : Thread nD τ) none (dstw := stWin SKm (sl2 t)) () (N := NK) rfl) $$ [Hf HO]
  · isplitl [Hf]; · iexact Hf
    isplitl [HO]; · iexact HO
    iapply (mayWait c (.dma (ssK (sl2 t))) 0 (by generalize sl2 t = s; revert s; decide) is hok) $$ HL
  iintro ⟨⟨Hs, Hx1⟩, Hv, HO⟩
  iapply HK
  isplitr [HO]
  · isplitl
    · isplitl [Hs]; · iexact Hs
      isplitl [Hx1 Hx2]
      · iapply (x_join m c _ (xK c t))
        isplitl [Hx1] <;> iassumption
      · iexact Hv
    · iempintro
  · iexists _; iexact HO

/-! ## Chunks sent and received -/

omit [FloatOps F] in
/-- An arrived chunk, in its three shares. -/
theorem rb_shares (c : Dev nD) (j : Nat) (f) :
    rbP (F := F) c j fullShare f ⊣⊢ iprop(rbP c j (pcs 0) f ∗ rbP c j (pcs 1) f ∗ rbP c j (pcs 2) f) := by
  unfold rbP
  exact (pointsTo_share (PosShare.mem_left_op_right fullShare)).trans (sep_congr_right (pointsTo_share (PosShare.mem_left_op_right fullShare.right)))

/-- The send of slot `a` forwards what the receiver expects there. -/
theorem fwd_eq (a : Fin 32) (c : Dev nD) (ha : ¬ a.val < 12) (x : S256x1024.Idx) :
    (rbWin (offSend a.val c) (inbSend a c)).view.read (Elt F) (RB m c) x = (rbWin (offSend a.val c) (inbSend a c)).view.read (Elt F) (RB m (nbr (axis a) c)) x := by
  rw [read_rb m c _ _ _ (offSend_eq a c), read_rb m (nbr (axis a) c) _ _ _ (offSend_eq a c)]
  unfold Rf
  rw [jr_src a c ha, (src_fwd a c ha).1, (src_fwd a c ha).2]
/-- And so does the send of an own chunk. -/
theorem own_eq (i : Fin 12) (c : Dev nD) (x : S256x1024.Idx) :
    (ysWin i).view.read (Elt F) (YS m c) x = (rbWin (offSend (up i).val c) (inbSend (up i) c)).view.read (Elt F) (RB m (nbr (axis (up i)) c)) x := by
  rw [read_ys, read_rb m (nbr (axis (up i)) c) _ _ _ (offSend_eq (up i) c)]
  unfold Rf
  have h := src_own i c
  rw [axis_up, show (up i).val = i.val from rfl, h.1, h.2.1, h.2.2]

/-- A forwarding send's read-out gives back the lent share of the chunk. -/
theorem sendPay_fwd (c : Dev nD) (a : Fin 32) (ha : ¬ a.val < 12) : sendPay m c a = rbP c (jr (srcArr a).val c.val) (pcs (lent a)) (RB m c) := if_neg ha
/-- A send along `y` gives back the chunk of the send buffer. -/
theorem sendPay_own (c : Dev nD) (i : Fin 12) : sendPay m c (up i) = ysP c i.val (YS m c) := if_pos i.2

/-- A send to the neighbour on the slot's axis, from a window that holds what the receiver expects. -/
theorem send_gen (K : Cells → ℕ) (c : Dev nD) (a : Fin 32) (is : List Ins) (n : Dev nD) (hn : n = nbr (axis a) c)
    (src : Memref sig .tc .vmem S256x1024 .bf16) (hs : src.view.WordExact) (hd : (rbWin (offSend a.val c) (inbSend a c)).view.WordExact)
    (hsc) (hsem : DmaTarget.Typed (nD := nD) (τ := τ) .vmem (.dma (sRecv a)) (.remote (Dev.tc n) (rbWin (offSend a.val c) (inbSend a c)) (.dma (sSend a)) hsc))
    (q) (fs : Buf (Elt F) (src.view.loc (c : Thread nD τ)))
    (hpay : (src.view.loc (c : Thread nD τ) ↦[src.view.set]{q} fs) ⊢ sendPay m c a)
    (hread : ∀ x, src.view.read (Elt F) fs x = (rbWin (offSend a.val c) (inbSend a c)).view.read (Elt F) (RB m (nbr (axis a) c)) x)
    (kk : P F) (Q : PUnit → sProp 𝕄) :
    iprop(records m K ∗ (src.view.loc (c : Thread nD τ) ↦[src.view.set]{q} fs) ∗ den m c (.duty a) ∗ den m c (.dst a) ∗ owesW c (debt c is + tallyAt (recvC (nbr (axis a) c) a) () N))
      ⊢ iprop((iprop(den m c (.sCred a) ∗ owesW c (debt c is)) -∗ wpc c kk Q)
        -∗ wpc c (.op (.enqueueDma src (.remote (Dev.tc n) (rbWin (offSend a.val c) (inbSend a c)) (.dma (sSend a)) hsc) (.dma (sRecv a)) hs hd hsem) fun _ => kk) Q) := by
  subst hn
  simp only [den, owesW, dstTok]
  iintro ⟨#HR, Hp, ⟨Hd1, Hd2⟩, ⟨%fd, Hd⟩, HO⟩ HK
  icases HO with ⟨%W, HO⟩
  ihave #HI1 := (rec_inv m K (c, .inr (.inl a))) $$ HR
  ihave #HI2 := (rec_inv m K (nbr (axis a) c, .inr (.inr a))) $$ HR
  ihave #Hr1 := (rec_reach m K (c, .inr (.inl a))) $$ HR
  ihave #Hr2 := (rec_reach m K (nbr (axis a) c, .inr (.inr a))) $$ HR
  iapply (Rounds.wp_send_pointsTo 𝒱₀ EB (rd m) (c : Thread nD τ) none (c' := Dev.tc (nbr (axis a) c)) (src := src)
      (dst := rbWin (offSend a.val c) (inbSend a c)) (sS := .dma (sSend a)) (sem := .dma (sRecv a)) (q := q) (fs := fs) (fd := fd)
      (κ₁ := K (c, .inr (.inl a))) (κ₂ := K (nbr (axis a) c, .inr (.inr a))) (r₁ := 0) (r₂ := 0) (d₁ := 0) (d₂ := 0)
      (by rw [duties_send]; exact Finset.mem_singleton_self _) (by rw [duties_recv]; exact Finset.mem_singleton_self _)
      () () N rfl (amount_send m c a 0) (amount_recv m (nbr (axis a) c) a 0) (debt c is) rfl
      (by rw [payload_send]; exact hpay)
      (by
        rw [payload_recv, recvPay]
        exact (Entails.of_eq (write_pt (rbWin (offSend a.val c) (inbSend a c)).view (nbr (axis a) c) fullShare fd (RB m (nbr (axis a) c)) _
          (funext hread))).trans (Entails.of_eq (rb_pt (nbr (axis a) c) _ _ _ (offSend_eq a c) _ _)))) $$ [HO Hp Hd1 Hd2 Hd]
  · isplitr; · iexact HI1
    isplitr; · iexact HI2
    isplitl [Hp]; · iexact Hp
    isplitl [Hd]
    · iapply (Entails.of_eq (rb_pt (nbr (axis a) c) _ (inbSend a c) _ (offSend_eq a c) _ _).symm) $$ Hd
    isplitl [HO]; · iexact HO
    isplitl [Hd1]; · iexact Hd1
    isplitr; · iexact Hr1
    isplitl [Hd2]; · iexact Hd2
    iexact Hr2
  iintro ⟨HC, HO⟩
  iapply HK
  isplitl [HC]; · iexact HC
  iexists W; iexact HO

/-- A forwarding send starts: it fills the neighbour's chunk and lends its own. -/
theorem step_send (K : Cells → ℕ) (c : Dev nD) (a : Fin 32) (is : List Ins) (hok : Nat.ble 12 a.val = true) : Step m K c (.send a) is := by
  intro kk Q
  have ha : ¬ a.val < 12 := by have := Nat.le_of_ble_eq_true hok; omega
  have hw := rb_pt c (F := F) _ (inbSend a c) _ ((offSend_eq a c).trans (by rw [jr_src a c ha])) (pcs (lent a)) (RB m c)
  simp only [pre, post, dens, List.foldr]
  iintro ⟨#HR, ⟨Hp, Hd, Ht, -⟩, HO⟩ HK
  simp only [run, Prog.lift, Prog.bind_op, Prog.bind_ret]
  iapply (send_gen m K c a is _ (devSend_eq a c) (rbWin (offSend a.val c) (inbSend a c)) _ _ _ _ (pcs (lent a)) (RB m c)
    (by rw [sendPay_fwd m c a ha]; exact Entails.of_eq hw) (fwd_eq m a c ha) kk Q) $$ [HO Hp Hd Ht]
  · isplitr; · iexact HR
    isplitl [Hp]
    · iapply (Entails.of_eq hw.symm) $$ [Hp]
      simp only [den]; iexact Hp
    isplitl [Hd]; · iexact Hd
    isplitl [Ht]; · iexact Ht
    iexact HO
  iintro ⟨HC, HO⟩
  iapply HK
  isplitr [HO]
  · isplitl
    · iexact HC
    · iempintro
  · iexact HO

/-- A send along `y` starts. -/
theorem step_sendY (K : Cells → ℕ) (c : Dev nD) (i : Fin 12) (is : List Ins) : Step m K c (.sendY i) is := by
  intro kk Q
  have hw := ys_pt c i (F := F) (YS m c)
  simp only [pre, post, dens, List.foldr]
  iintro ⟨#HR, ⟨Hp, Hd, Ht, -⟩, HO⟩ HK
  simp only [run, Prog.lift, Prog.bind_op, Prog.bind_ret]
  iapply (send_gen m K c (up i) is _ (devSend_eq (up i) c) (ysWin i) _ _ _ _ fullShare (YS m c)
    (by rw [sendPay_own]; exact Entails.of_eq hw) (own_eq m i c) kk Q) $$ [HO Hp Hd Ht]
  · isplitr; · iexact HR
    isplitl [Hp]
    · iapply (Entails.of_eq hw.symm) $$ [Hp]
      simp only [den]; iexact Hp
    isplitl [Hd]; · iexact Hd
    isplitl [Ht]; · iexact Ht
    iexact HO
  iintro ⟨HC, HO⟩
  iapply HK
  isplitr [HO]
  · isplitl
    · iexact HC
    · iempintro
  · iexact HO

/-- The wait on a receive cell, whatever window of a chunk's size it names. -/
theorem wait_recv (K : Cells → ℕ) (c : Dev nD) (a : Fin 32) (is : List Ins) (hok : above (lvr a.val) is = true)
    {sp sp' : Space} {s' : Shape} {e' : EltTy} (srcw : Memref sig .tc sp s' e') (dstw : Memref sig .tc sp' S256x1024 .bf16) (hs : srcw.view.WordExact) (hd : dstw.view.WordExact)
    (hN : dstw.view.dmaCredit = N) (kk : P F) (Q : PUnit → sProp 𝕄) :
    iprop(records m K ∗ den m c (.rPos a) ∗ owesW c (debt c is))
      ⊢ iprop((iprop(semVal (recvC c a) 0 ∗ recvPay m c a ∗ owesW c (debt c is)) -∗ wpc c kk Q)
        -∗ wpc c (.op (.waitDma2 (sRecv a) srcw dstw hs hd) fun _ => kk) Q) := by
  simp only [den, owesW]
  iintro ⟨#HR, ⟨Hp, Hc⟩, HO⟩ HK
  icases HO with ⟨%W, HO⟩
  ihave #HI := (rec_inv m K (c, .inr (.inr a))) $$ HR
  ihave #HL := (rec_lev m K) $$ HR
  iapply (Rounds.wp_wait_rest_token 𝒱₀ EB (rd m) (c : Thread nD τ) none (κ := K (c, .inr (.inr a))) (wpE_waitDma2_eq 𝒱₀ (c : Thread nD τ) none Set.univ)
      (Set.mem_univ _) () (O := debt c is) (W := W) (R := 0) (m := 0) (T := ∅) (by rw [Nat.zero_add, expect_recv])) $$ [HO Hp Hc]
  · isplitr; · iexact HI
    isplitl [Hc]; · rw [hN]; iexact Hc
    isplitl [HO]; · iexact HO
    isplitr
    · iapply (mayWait c (.dma (sRecv a)) (lvr a.val) (by rw [ck_recv]; exact Nat.le_refl _) is hok) $$ HL
    · unfold pos; iexact Hp
  iintro ⟨HO, Ha, -, Hpay⟩
  ihave Hpay' := (Entails.of_eq (rest_recv m c a)) $$ Hpay
  imod (Rounds.cell_close EB (rd m) (Set.mem_univ (K (c, .inr (.inr a)))) (fun h => h) (R := 0 + 1) (duties_later m (recvC c a))) $$ [Ha] with Hsem
  · isplitr; · iexact HI
    iexact Ha
  iapply HK
  isplitl [Hsem]; · iexact Hsem
  isplitl [Hpay']; · iexact Hpay'
  iexists _; iexact HO

/-- The wait for an arrival hands over the chunk, filled. -/
theorem step_recv (K : Cells → ℕ) (c : Dev nD) (a : Fin 32) (is : List Ins) (hok : above (lvr a.val) is = true) : Step m K c (.recv a) is := by
  intro kk Q
  have key : ∀ {sp sp' : Space} {s' : Shape} {e' : EltTy} (srcw : Memref sig .tc sp s' e') (dstw : Memref sig .tc sp' S256x1024 .bf16) (hs : srcw.view.WordExact) (hd : dstw.view.WordExact)
      (hN : dstw.view.dmaCredit = N),
      iprop(records m K ∗ dens m c (pre (.recv a)) ∗ owesW c (debt c (.recv a :: is)))
      ⊢ iprop((iprop(dens m c (post (.recv a)) ∗ owesW c (debt c is)) -∗ wpc c kk Q) -∗ wpc c (.op (.waitDma2 (sRecv a) srcw dstw hs hd) fun _ => kk) Q) := by
    intro sp sp' s' e' srcw dstw hs hd hN
    simp only [pre, post, dens, List.foldr]
    iintro ⟨#HR, ⟨Hp, -⟩, HO⟩ HK
    iapply (wait_recv m K c a is hok srcw dstw hs hd hN kk Q) $$ [Hp HO]
    · isplitr; · iexact HR
      isplitl [Hp]; · iexact Hp
      iexact HO
    iintro ⟨Hv, Hpay, HO⟩
    ihave Hpc := (rb_shares c (jr a.val c.val) (RB m c)).1 $$ [Hpay]
    · unfold recvPay; iexact Hpay
    icases Hpc with ⟨H0, H1, H2⟩
    iapply HK
    simp only [den]
    isplitr [HO]
    · isplitl [Hv]; · iexact Hv
      isplitl [H0]; · iexact H0
      isplitl [H1]; · iexact H1
      isplitl [H2]; · iexact H2
      iempintro
    · iexact HO
  by_cases h : a.val < 12
  · simp only [run, dif_pos h, Prog.lift, Prog.bind_op, Prog.bind_ret]
    exact key _ _ _ _ rfl
  · simp only [run, dif_neg h, Prog.lift, Prog.bind_op, Prog.bind_ret]
    exact key _ _ _ _ rfl

/-- The wait on a send cell. -/
theorem wait_send (K : Cells → ℕ) (c : Dev nD) (a : Fin 32) (is : List Ins) (hok : above 0 is = true)
    {sp sp' : Space} {s' : Shape} {e' : EltTy} (srcw : Memref sig .tc sp s' e') (dstw : Memref sig .tc sp' S256x1024 .bf16) (hs : srcw.view.WordExact) (hd : dstw.view.WordExact)
    (hN : dstw.view.dmaCredit = N) (kk : P F) (Q : PUnit → sProp 𝕄) :
    iprop(records m K ∗ (den m c (.sCred a) ∗ den m c (.sPos a)) ∗ owesW c (debt c is))
      ⊢ iprop((iprop(semVal (sendC c a) 0 ∗ sendPay m c a ∗ owesW c (debt c is)) -∗ wpc c kk Q)
        -∗ wpc c (.op (.waitDma2 (sSend a) srcw dstw hs hd) fun _ => kk) Q) := by
  simp only [den, owesW]
  iintro ⟨#HR, ⟨Hc, Hp⟩, HO⟩ HK
  icases HO with ⟨%W, HO⟩
  ihave #HI := (rec_inv m K (c, .inr (.inl a))) $$ HR
  ihave #HL := (rec_lev m K) $$ HR
  iapply (Rounds.wp_wait_rest_token 𝒱₀ EB (rd m) (c : Thread nD τ) none (κ := K (c, .inr (.inl a))) (wpE_waitDma2_eq 𝒱₀ (c : Thread nD τ) none Set.univ)
      (Set.mem_univ _) () (O := debt c is) (W := W) (R := 0) (m := 0) (T := ∅) (by rw [Nat.zero_add, expect_send])) $$ [HO Hp Hc]
  · isplitr; · iexact HI
    isplitl [Hc]; · rw [hN]; iexact Hc
    isplitl [HO]; · iexact HO
    isplitr
    · iapply (mayWait c (.dma (sSend a)) 0 (by rw [ck_send]; exact Nat.le_refl _) is hok) $$ HL
    · unfold pos; iexact Hp
  iintro ⟨HO, Ha, -, Hpay⟩
  ihave Hpay' := (Entails.of_eq (rest_send m c a)) $$ Hpay
  imod (Rounds.cell_close EB (rd m) (Set.mem_univ (K (c, .inr (.inl a)))) (fun h => h) (R := 0 + 1) (duties_later m (sendC c a))) $$ [Ha] with Hsem
  · isplitr; · iexact HI
    iexact Ha
  iapply HK
  isplitl [Hsem]; · iexact Hsem
  isplitl [Hpay']; · iexact Hpay'
  iexists _; iexact HO

/-- The wait for a forwarding send's end gives back the share lent. -/
theorem step_done (K : Cells → ℕ) (c : Dev nD) (a : Fin 32) (is : List Ins) (hok : (Nat.ble 12 a.val && above 0 is) = true) : Step m K c (.done a) is := by
  intro kk Q
  rw [Bool.and_eq_true] at hok
  have ha : ¬ a.val < 12 := by have := Nat.le_of_ble_eq_true hok.1; omega
  simp only [pre, post, dens, List.foldr]
  iintro ⟨#HR, ⟨Hc, Hp, -⟩, HO⟩ HK
  simp only [run, Prog.lift, Prog.bind_op, Prog.bind_ret]
  iapply (wait_send m K c a is hok.2 (rbWin (offSend a.val c) (inbSend a c)) (rbWin (offSend a.val c) (inbSend a c)) _ _ rfl kk Q) $$ [Hc Hp HO]
  · isplitr; · iexact HR
    isplitl [Hc Hp]
    · isplitl [Hc] <;> iassumption
    iexact HO
  iintro ⟨Hv, Hpay, HO⟩
  ihave Hpay := (Entails.of_eq (sendPay_fwd m c a ha)) $$ Hpay
  iapply HK
  simp only [den]
  isplitr [HO]
  · isplitl [Hv]; · iexact Hv
    isplitl [Hpay]; · iexact Hpay
    iempintro
  · iexact HO

/-- The wait for the end of a send along `y` gives back the chunk sent. -/
theorem step_doneY (K : Cells → ℕ) (c : Dev nD) (i : Fin 12) (is : List Ins) (hok : above 0 is = true) : Step m K c (.doneY i) is := by
  intro kk Q
  simp only [pre, post, dens, List.foldr]
  iintro ⟨#HR, ⟨Hc, Hp, -⟩, HO⟩ HK
  simp only [run, Prog.lift, Prog.bind_op, Prog.bind_ret]
  iapply (wait_send m K c (up i) is hok (rbWin (offSend (up i).val c) (inbSend (up i) c)) (ysWin i) _ _ rfl kk Q) $$ [Hc Hp HO]
  · isplitr; · iexact HR
    isplitl [Hc Hp]
    · isplitl [Hc] <;> iassumption
    iexact HO
  iintro ⟨Hv, Hpay, HO⟩
  ihave Hpay := (Entails.of_eq (sendPay_own m c i)) $$ Hpay
  iapply HK
  simp only [den]
  isplitr [HO]
  · isplitl [Hv]; · iexact Hv
    isplitl [Hpay]; · iexact Hpay
    iempintro
  · iexact HO

/-! ## Casting and adding -/

/-- A page, or half a page, of a whole buffer of rank 3, as loads and stores name it. -/
theorem acc_set (b : Ref sig .tc) (r : Rect b.ty.shape) : ((Memref.whole b).access r).set = r.set := View.set_slice_whole b r

section Unit
variable {n A B a b : Nat} (o : Fin 3 → Nat)
  (h : ∀ i, o i + (⟨3, ![1, a, b]⟩ : Shape).size i ≤ (⟨3, ![n, A, B]⟩ : Shape).size i)
  (y : (⟨3, ![1, a, b]⟩ : Shape).Idx)
/-- The first coordinate of an index of a rectangle, -/
theorem unit_0 : (((Rect.unit (s := ⟨3, ![n, A, B]⟩) o (⟨3, ![1, a, b]⟩ : Shape).size h).emb y) 0).val = o 0 := by
  rw [Rect.emb_apply]
  have h0 : (y 0).val < 1 := (y 0).isLt
  show o 0 + 1 * (y 0).val = o 0
  omega
/-- its second, -/
theorem unit_1 : (((Rect.unit (s := ⟨3, ![n, A, B]⟩) o (⟨3, ![1, a, b]⟩ : Shape).size h).emb y) 1).val = o 1 + (y 1).val := by
  rw [Rect.emb_apply]
  show o 1 + 1 * (y 1).val = _
  omega
/-- and its third. -/
theorem unit_2 : (((Rect.unit (s := ⟨3, ![n, A, B]⟩) o (⟨3, ![1, a, b]⟩ : Shape).size h).emb y) 2).val = o 2 + (y 2).val := by
  rw [Rect.emb_apply]
  show o 2 + 1 * (y 2).val = _
  omega
end Unit

/-- A half of a staging slot, as a rectangle. -/
abbrev rSt (s h : Fin 2) : Rect S2x512x1024 := Rect.unit (s := S2x512x1024) ![s.val, 256 * h.val, 0] S1x256x1024.size (inbSt2 s h)
/-- A chunk of the send buffer, as a rectangle. -/
abbrev rYs (i : Fin 12) : Rect S12x256x1024 := Rect.unit (s := S12x256x1024) ![i.val, 0, 0] S1x256x1024.size (inbYs i)
/-- The chunk added, as a rectangle. -/
abbrev rRb (oc : Fin 16) (h : Fin 2) (d : Dev nD) : Rect S32x256x1024 := Rect.unit (s := S32x256x1024) (offAdd oc.val h.val d) S1x256x1024.size (inbAdd oc h d)
/-- A half of an output slot, as a rectangle. -/
abbrev rOb (s : Fin 4) (h : Fin 2) : Rect S4x512x1024 := Rect.unit (s := S4x512x1024) ![s.val, 256 * h.val, 0] S1x256x1024.size (inbOb2 s h)

/-- The half of a full slot, cast, is the chunk's contents in the send buffer. -/
theorem cast_eq (c : Dev nD) (i : Fin 12) (y : S1x256x1024.Idx) :
    castPay ((SSm.access (rSt (sl2 (grp i)) (sl2 i))).read (Elt F) (STS m c (grp i))) y = (YSm.access (rYs i)).read (Elt F) (YS m c) y := by
  rw [castPay_apply]
  show Xb m c (256 * rowIn 0 (i.val / 2) c.val + (((rSt (sl2 (grp i)) (sl2 i)).emb y) 1).val) (1024 * colIn 0 c.val + (((rSt (sl2 (grp i)) (sl2 i)).emb y) 2).val)
    = Xb m c (256 * (rowIn 0 ((((rYs i).emb y) 0).val / 2) c.val + (((rYs i).emb y) 0).val % 2) + (((rYs i).emb y) 1).val) (1024 * colIn 0 c.val + (((rYs i).emb y) 2).val)
  erw [unit_1, unit_2, unit_0, unit_1]
  show Xb m c (256 * rowIn 0 (i.val / 2) c.val + (256 * (i.val % 2) + (y 1).val)) (1024 * colIn 0 c.val + (0 + (y 2).val))
    = Xb m c (256 * (rowIn 0 (i.val / 2) c.val + i.val % 2) + (0 + (y 1).val)) (1024 * colIn 0 c.val + (0 + (y 2).val))
  congr 1
  omega

/-- The half of a full slot, cast, plus the arrived chunk is the result's contents. -/
theorem half_eq (c : Dev nD) (oc : Fin 16) (h : Fin 2) (y : S1x256x1024.Idx) :
    addPay ((SKm.access (rSt (sl2 oc) h)).read (Elt F) (STK m c oc)) ((RBm.access (rRb oc h c)).read (Elt F) (RB m c)) y
      = (OBm.access (rOb (sl4 oc) h)).read (Elt F) (OB m c oc) y := by
  rw [addPay_apply]
  show FloatOps.addf (Xb m c (256 * rowIn 1 oc.val c.val + (((rSt (sl2 oc) h).emb y) 1).val) (1024 * colIn 1 c.val + (((rSt (sl2 oc) h).emb y) 2).val))
      (Rf m c (((rRb oc h c).emb y) 0).val (((rRb oc h c).emb y) 1).val (((rRb oc h c).emb y) 2).val)
    = OUTf m c (256 * rowIn 1 oc.val c.val + (((rOb (sl4 oc) h).emb y) 1).val) (((rOb (sl4 oc) h).emb y) 2).val
  erw [unit_1, unit_2, unit_0, unit_1, unit_2, offAdd_eq]
  show FloatOps.addf (Xb m c (256 * rowIn 1 oc.val c.val + (256 * h.val + (y 1).val)) (1024 * hy c + (0 + (y 2).val)))
      (Rf m c (rowIn 1 oc.val c.val + h.val) (0 + (y 1).val) (0 + (y 2).val))
    = FloatOps.addf (Xb m c (256 * rowIn 1 oc.val c.val + (256 * h.val + (y 1).val)) (1024 * hy c + (0 + (y 2).val)))
      (Rf m c ((256 * rowIn 1 oc.val c.val + (256 * h.val + (y 1).val)) / 256) ((256 * rowIn 1 oc.val c.val + (256 * h.val + (y 1).val)) % 256) (0 + (y 2).val))
  have hy1 : (y 1).val < 256 := (y 1).isLt
  congr 2 <;> omega

/-- The cast of a staged half fills a chunk of the send buffer. -/
theorem step_cast (K : Cells → ℕ) (c : Dev nD) (i : Fin 12) (is : List Ins) : Step m K c (.cast i) is := by
  intro kk Q
  have hset : (YSm.access (rYs i)).set = pg i.val := (acc_set cc0_scratch1 _).trans (unit_pg _ _ _ rfl)
  simp only [pre, post, dens, List.foldr, den]
  iintro ⟨#HR, ⟨⟨Hs, Hx, Hv⟩, ⟨%f, Hy⟩, -⟩, HO⟩ HK
  simp only [run, Prog.lift, Prog.bind_op, Prog.bind_ret]
  unfold ssP ysP
  iapply (wp_load_rect 𝒱₀ (c : Thread nD τ) none Set.univ (m := SSm) (r := rSt (sl2 (grp i)) (sl2 i)) (f := STS m c (grp i))
    (by
      refine ((acc_set cc0_scratch2 _).trans (unit_hf _ _ _)).subset.trans fun j hj => ?_
      rw [mem_hf] at hj; exact mem_pg.mpr hj.1)) $$ Hs
  iintro Hs
  iapply (wp_load_rect 𝒱₀ (c : Thread nD τ) none Set.univ (m := YSm) (r := rYs i) (f := f) hset.subset) $$ Hy
  iintro Hy
  iapply (wp_store 𝒱₀ (c : Thread nD τ) none Set.univ (m := YSm) (r := rYs i) (f := f) (Mk := Finset.univ) hset.subset) $$ Hy
  iintro Hy
  iapply HK
  isplitr [HO]
  · isplitl [Hs Hx Hv]
    · isplitl [Hs]; · iexact Hs
      isplitl [Hx] <;> iassumption
    isplitl [Hy]
    · iapply (Entails.of_eq (show (((c : Thread nD τ).loc cc0_scratch1) ↦[pg i.val]{fullShare} (YSm.access (rYs i)).write (Elt F) f
          (castPay ((SSm.access (rSt (sl2 (grp i)) (sl2 i))).read (Elt F) (STS m c (grp i)))) Finset.univ : sProp 𝕄) = _ from by
        have h := write_pt (F := F) (YSm.access (rYs i)) c fullShare f (YS m c) _ (funext (cast_eq m c i))
        rw [hset] at h; exact h)) $$ Hy
    · iempintro
  · iexact HO

/-- The add of a staged half and an arrived chunk fills a half of an output slot. -/
theorem step_half (K : Cells → ℕ) (c : Dev nD) (oc : Fin 16) (h : Fin 2) (is : List Ins) : Step m K c (.half oc h) is := by
  intro kk Q
  have hset : (OBm.access (rOb (sl4 oc) h)).set = hf (sl4 oc).val h.val := (acc_set cc0_scratch4 _).trans (unit_hf _ _ _)
  have hrb : (RBm.access (rRb oc h c)).set = pg (jr (addSlot oc h).val c.val) := (acc_set cc0_scratch0 _).trans (unit_pg _ _ _ ((offAdd_eq oc h c).trans (by rw [jr_add])))
  simp only [pre, post, dens, List.foldr, den]
  iintro ⟨#HR, ⟨⟨Hs, Hx, Hv⟩, Hr, ⟨%f, Hy⟩, -⟩, HO⟩ HK
  simp only [run, Prog.lift, Prog.bind_op, Prog.bind_ret]
  unfold skP obP rbP
  iapply (wp_load_rect 𝒱₀ (c : Thread nD τ) none Set.univ (m := SKm) (r := rSt (sl2 oc) h) (f := STK m c oc)
    (by
      refine ((acc_set cc0_scratch3 _).trans (unit_hf _ _ _)).subset.trans fun j hj => ?_
      rw [mem_hf] at hj; exact mem_pg.mpr hj.1)) $$ Hs
  iintro Hs
  iapply (wp_load_rect 𝒱₀ (c : Thread nD τ) none Set.univ (m := RBm) (r := rRb oc h c) (f := RB m c) hrb.subset) $$ Hr
  iintro Hr
  iapply (wp_load_rect 𝒱₀ (c : Thread nD τ) none Set.univ (m := OBm) (r := rOb (sl4 oc) h) (f := f) hset.subset) $$ Hy
  iintro Hy
  iapply (wp_store 𝒱₀ (c : Thread nD τ) none Set.univ (m := OBm) (r := rOb (sl4 oc) h) (f := f) (Mk := Finset.univ) hset.subset) $$ Hy
  iintro Hy
  iapply HK
  isplitr [HO]
  · isplitl [Hs Hx Hv]
    · isplitl [Hs]; · iexact Hs
      isplitl [Hx] <;> iassumption
    isplitl [Hr]; · iexact Hr
    isplitl [Hy]
    · iapply (Entails.of_eq (show (((c : Thread nD τ).loc cc0_scratch4) ↦[hf (sl4 oc).val h.val]{fullShare} (OBm.access (rOb (sl4 oc) h)).write (Elt F) f
          (addPay ((SKm.access (rSt (sl2 oc) h)).read (Elt F) (STK m c oc)) ((RBm.access (rRb oc h c)).read (Elt F) (RB m c))) Finset.univ : sProp 𝕄) = _ from by
        have h := write_pt (F := F) (OBm.access (rOb (sl4 oc) h)) c fullShare f (OB m c oc) _ (funext (half_eq m c oc h))
        rw [hset] at h; exact h)) $$ Hy
    · iempintro
  · iexact HO

/-! ## Writing the output -/

omit [FloatOps F] in
/-- An output slot is its two halves. -/
theorem ob_split (c : Dev nD) (s : Fin 4) (f) : obW (F := F) c s.val f ⊣⊢ iprop(obP c s.val (0 : Fin 2).val f ∗ obP c s.val (1 : Fin 2).val f) := by
  unfold obW obP
  have hu : (pg s.val : Finset S4x512x1024.Idx) = hf s.val (0 : Fin 2).val ∪ hf s.val (1 : Fin 2).val := by
    ext i
    rw [Finset.mem_union, mem_pg, mem_hf, mem_hf]
    have h1 : (i 1).val < 512 := (i 1).isLt
    show _ ↔ (_ ∧ (i 1).val / 256 = 0) ∨ (_ ∧ (i 1).val / 256 = 1)
    omega
  rw [hu]
  exact pointsTo_union (by
    rw [Finset.disjoint_left]; intro i h0 h1; rw [mem_hf] at h0 h1; exact absurd (h0.2.symm.trans h1.2) (by decide))

/-- What an output slot reads is the result in its block. -/
theorem out_eq (c : Dev nD) (oc : Fin 16) (x : S512x1024.Idx) :
    (obWin (sl4 oc)).view.read (Elt F) (OB m c oc) x = (oWin (offOut oc.val c) (inbOut oc c)).view.read (Elt F) (OUT m c) x := by
  have key : ∀ (o) (h) (ho : o = ![512 * ob2 c oc, 0]), (oWin o h).view.read (Elt F) (OUT m c) x = OUTf m c (512 * ob2 c oc + (x 0).val) (0 + (x 1).val) := by
    intro o h ho
    subst ho
    show OUTf m c (512 * ob2 c oc + 1 * (x 0).val) (0 + 1 * (x 1).val) = _
    rw [Nat.one_mul, Nat.one_mul]
  rw [key _ _ (ob2_eq oc c), ← ob2_row]
  show OUTf m c (256 * rowIn 1 oc.val c.val + _) _ = _
  erw [page_1, page_2]
  simp

/-- A write-back of an output slot starts. -/
theorem step_outS (K : Cells → ℕ) (c : Dev nD) (oc : Fin 16) (is : List Ins) : Step m K c (.outS oc) is := by
  intro kk Q
  simp only [pre, post, dens, List.foldr, den]
  iintro ⟨#HR, ⟨H0, H1, ⟨%f, Hw⟩, Hv, -⟩, HO⟩ HK
  simp only [run, Prog.lift, Prog.bind_op, Prog.bind_ret]
  iapply (Transfers.wp_dmaLocal EC 𝒱₀ (c : Thread nD τ) none (src := obWin (sl4 oc)) (dst := oWin (offOut oc.val c) (inbOut oc c))
      (q := fullShare) (fs := OB m c oc) (Sd := (oWin (offOut oc.val c) (inbOut oc c)).view.set) (fd := f) () NO rfl NO_pos (Finset.Subset.refl _)) $$ [H0 H1 Hw Hv]
  · isplitl [H0 H1]
    · iapply (Entails.of_eq (ob_pt c (sl4 oc) (OB m c oc)).symm)
      iapply (ob_split c (sl4 oc) (OB m c oc)).2
      isplitl [H0] <;> iassumption
    isplitl [Hw]
    · iapply (Entails.of_eq (o_pt c _ (inbOut oc c) _ (ob2_eq oc c) f).symm) $$ Hw
    · iexact Hv
  iintro HF
  rw [write_pt (oWin (offOut oc.val c) (inbOut oc c)).view c fullShare f (OUT m c) _ (funext fun x => out_eq m c oc x), o_pt c _ (inbOut oc c) _ (ob2_eq oc c), ob_pt]
  iapply HK
  isplitr [HO]
  · isplitl
    · iexact HF
    · iempintro
  · iexact HO

/-- The wait for a write-back finds the block written and the slot free. -/
theorem step_outW (K : Cells → ℕ) (c : Dev nD) (oc : Fin 16) (is : List Ins) (hok : above 0 is = true) : Step m K c (.outW oc) is := by
  intro kk Q
  simp only [pre, post, dens, List.foldr, den, owesW]
  iintro ⟨#HR, ⟨Hf, -⟩, HO⟩ HK
  icases HO with ⟨%W, HO⟩
  ihave #HL := (rec_lev m K) $$ HR
  simp only [run, Prog.lift, Prog.bind_op, Prog.bind_ret]
  iapply (Transfers.wp_waitLocalO EC 𝒱₀ (c : Thread nD τ) none (dstw := oWin (offOut oc.val c) (inbOut oc c)) () (N := NO) rfl) $$ [Hf HO]
  · isplitl [Hf]; · iexact Hf
    isplitl [HO]; · iexact HO
    iapply (mayWait c (.dma (ssO (sl4 oc))) 0 (by generalize sl4 oc = s; revert s; decide) is hok) $$ HL
  iintro ⟨⟨Hw, Ho⟩, Hv, HO⟩
  ihave Ho := (ob_split c (sl4 oc) (OB m c oc)).1 $$ Ho
  icases Ho with ⟨H0, H1⟩
  iapply HK
  isplitr [HO]
  · isplitl [H0]; · iexists _; iexact H0
    isplitl [H1]; · iexists _; iexact H1
    isplitl [Hw]; · iexact Hw
    isplitl [Hv]; · iexact Hv
    iempintro
  · iexists _; iexact HO

/-- Every instruction runs from the pieces it takes to the pieces it leaves. -/
theorem step (K : Cells → ℕ) (c : Dev nD) (i : Ins) (is : List Ins) (hok : ok i is = true) : Step m K c i is := by
  cases i with
  | sig k => exact step_sig m K c k is
  | barWait => exact step_barWait m K c is hok
  | stageS t => exact step_stageS m K c t is
  | waitS t => exact step_waitS m K c t is hok
  | cast i => exact step_cast m K c i is
  | sendY i => exact step_sendY m K c i is
  | send a => exact step_send m K c a is hok
  | recv a => exact step_recv m K c a is hok
  | stageK t => exact step_stageK m K c t is
  | waitK t => exact step_waitK m K c t is hok
  | half oc h => exact step_half m K c oc h is
  | outS oc => exact step_outS m K c oc is
  | outW oc => exact step_outW m K c oc is hok
  | doneY i => exact step_doneY m K c i is hok
  | done a => exact step_done m K c a is hok

end Cert.RS
-- ==== Proof.BodyEq.lean ====
/-
  The printed body is the run of the instruction list.
-/
module

public import proofs.«01_k».proof.Proof.Prog

@[expose] public section

noncomputable section

namespace Cert.RS

open Cert.KernelIdeal Cert.KernelIdeal.Gen
open Idealize.ShloMosaic Idealize.SL.Sem

variable {F : FTy → Type} [FloatOps F]

/-- The kernel's body, as printed, is the run of `prog`. -/
theorem body_eq :
    (cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8 cc0_scratch9
      cc0_scratch10 cc0_scratch11 cc0_scratch12 cc0_scratch13 : P F)
      = (Prog.lift .deviceId >>= fun d => runAll d prog) := by
  chain_rfl

end Cert.RS
-- ==== Proof.Body.lean ====
/-
  The whole body.  The pieces a device starts from and ends with; following the list of instructions through
  `pre` and `post`, computed once; and the run of the body from the one to the other.
-/
module

public import proofs.«01_k».proof.Proof.Steps
public import proofs.«01_k».proof.Proof.BodyEq

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of pieces -/

omit [FloatOps F] in
/-- Nothing beside a piece is the piece. -/
theorem emp_sepE (P : sProp 𝕄) : iprop(emp ∗ P) = P := by
  have h1 : iprop(emp ∗ P) ⊢ P := by iintro ⟨-, H⟩; iexact H
  have h2 : P ⊢ iprop(emp ∗ P) := by
    iintro H; isplitr
    · iempintro
    · iexact H
  exact Entails.antisymm h1 h2
omit [FloatOps F] in
/-- Pieces may be bracketed either way. -/
theorem sep_assocE (P Q R : sProp 𝕄) : iprop((P ∗ Q) ∗ R) = iprop(P ∗ Q ∗ R) := by
  have h1 : iprop((P ∗ Q) ∗ R) ⊢ iprop(P ∗ Q ∗ R) := by
    iintro ⟨⟨HP, HQ⟩, HR⟩
    isplitl [HP]; · iexact HP
    isplitl [HQ] <;> iassumption
  have h2 : iprop(P ∗ Q ∗ R) ⊢ iprop((P ∗ Q) ∗ R) := by
    iintro ⟨HP, HQ, HR⟩
    isplitr [HR]
    · isplitl [HP] <;> iassumption
    · iexact HR
  exact Entails.antisymm h1 h2
omit [FloatOps F] in
/-- The first two of three pieces may change places. -/
theorem sep_swapE (P Q R : sProp 𝕄) : iprop(P ∗ Q ∗ R) = iprop(Q ∗ P ∗ R) := by
  have h : ∀ P Q : sProp 𝕄, iprop(P ∗ Q ∗ R) ⊢ iprop(Q ∗ P ∗ R) := by
    intro P Q
    iintro ⟨HP, HQ, HR⟩
    isplitl [HQ]; · iexact HQ
    isplitl [HP] <;> iassumption
  exact Entails.antisymm (h P Q) (h Q P)

/-- The state of a list is its head's and its tail's. -/
theorem dens_cons (c : Dev nD) (t : Tok) (ts : List Tok) : dens m c (t :: ts) = iprop(den m c t ∗ dens m c ts) := rfl
/-- The state of no pieces is nothing. -/
theorem dens_nil (c : Dev nD) : dens m c [] = iprop(emp) := rfl
/-- The state of two lists is both states. -/
theorem dens_append (c : Dev nD) (l l' : List Tok) : dens m c (l ++ l') = iprop(dens m c l ∗ dens m c l') := by
  induction l with
  | nil => rw [List.nil_append, dens_nil, emp_sepE]
  | cons a l ih => rw [List.cons_append, dens_cons, dens_cons, ih, sep_assocE]
/-- The state does not depend on the order. -/
theorem dens_perm (c : Dev nD) {l l' : List Tok} (h : l.Perm l') : dens m c l = dens m c l' := by
  induction h with
  | nil => rfl
  | cons x _ ih => rw [dens_cons, dens_cons, ih]
  | swap x y l => simp only [dens_cons]; exact sep_swapE _ _ _
  | trans _ _ h1 h2 => exact h1.trans h2

/-- One piece for each index. -/
def all {n : Nat} (f : Fin n → Tok) : List Tok := (List.finRange n).map f
/-- The state of a family of pieces. -/
theorem dens_all (c : Dev nD) {n : Nat} (f : Fin n → Tok) : dens m c (all f) = bigSep Finset.univ fun i => den m c (f i) := by
  have h : ∀ l : List (Fin n), l.Nodup → dens m c (l.map f) = bigSep l.toFinset fun i => den m c (f i) := by
    intro l hl
    induction l with
    | nil => rfl
    | cons a l ih =>
      rw [List.nodup_cons] at hl
      rw [List.toFinset_cons, bigSep_insert (by simpa using hl.1), ← ih hl.2]
      rfl
  rw [all, h _ (List.nodup_finRange n), List.toFinset_finRange]

/-! ## Following the instructions -/

/-- The pieces `ps` out of `ts`. -/
def take : List Tok → List Tok → Option (List Tok)
  | [], ts => some ts
  | p :: ps, ts => bif ts.elem p then take ps (ts.erase p) else none
/-- The pieces left by a list of instructions. -/
def follow : List Ins → List Tok → Option (List Tok)
  | [], ts => some ts
  | i :: is, ts => bif ok i is then (match take (pre i) ts with | some r => follow is (post i ++ r) | none => none) else none

/-- When `take` finds pieces in a list, the list's state is theirs and the rest's. -/
theorem take_dens (c : Dev nD) : ∀ (ps ts r : List Tok), take ps ts = some r → dens m c ts = iprop(dens m c ps ∗ dens m c r)
  | [], ts, r, h => by
    rw [take, Option.some.injEq] at h
    rw [h, dens_nil, emp_sepE]
  | p :: ps, ts, r, h => by
    rw [take] at h
    cases he : ts.elem p with
    | false => rw [he] at h; exact absurd h (by simp)
    | true =>
      rw [he] at h
      have hm : p ∈ ts := List.mem_of_elem_eq_true he
      rw [dens_perm m c (List.perm_cons_erase hm), dens_cons, dens_cons, take_dens c ps _ r h, sep_assocE]

/-- A list of instructions runs from the pieces it can be followed from to those it is followed to. -/
theorem run_follow (K : Cells → ℕ) (c : Dev nD) : ∀ (is : List Ins) (ts fin : List Tok), follow is ts = some fin → ∀ (Q : PUnit → sProp 𝕄),
    iprop(records m K ∗ dens m c ts ∗ owesW c (debt c is))
      ⊢ iprop((iprop(dens m c fin ∗ owesW c 0) -∗ Q ⟨⟩) -∗ wpc c (runAll c is) Q)
  | [], ts, fin, h, Q => by
    rw [follow, Option.some.injEq] at h
    subst h
    iintro ⟨-, H⟩ HK
    simp only [runAll, Prog.pure_eq_ret, wpc, debt]
    rw [wp_ret]
    imodintro
    iapply HK $$ H
  | i :: is, ts, fin, h, Q => by
    rw [follow] at h
    cases ho : ok i is with
    | false => rw [ho] at h; exact absurd h (by simp)
    | true =>
      rw [ho] at h
      cases ht : take (pre i) ts with
      | none => rw [ht] at h; exact absurd h (by simp)
      | some r =>
        rw [ht] at h
        have ih := run_follow K c is (post i ++ r) fin h Q
        rw [take_dens m c _ _ _ ht]
        rw [dens_append] at ih
        iintro ⟨#HR, ⟨Hp, Hr⟩, HO⟩ HK
        iapply (step m K c i is ho (runAll c is) Q) $$ [Hp HO]
        · isplitr; · iexact HR
          isplitl [Hp] <;> iassumption
        iintro ⟨Hq, HO⟩
        iapply ih $$ [Hq Hr HO]
        · isplitr; · iexact HR
          isplitl [Hq Hr]
          · isplitl [Hq] <;> iassumption
          · iexact HO
        iexact HK

/-- What a device starts from. -/
def initToks : List Tok :=
  [.idleS 0, .idleS 1, .idleK 0, .idleK 1, .bPos] ++ (all .gift ++ (all .bDuty ++ (all .yFree ++ (all .rPos ++ (all .sPos ++ (all .duty ++
    (all (.oFree · 0) ++ (all (.oFree · 1) ++ (all .oSem ++ all .wFree)))))))))
/-- What it ends with. -/
def finToks : List Tok :=
  [.fullS 4, .fullS 5, .fullK 14, .fullK 15, .clB] ++ (all .yFull ++ (all (.pc · 0) ++ (all (.pc · 1) ++ (all (.pc · 2) ++ (all .clR ++ (all .clS ++
    (all (.oFree · 0) ++ (all (.oFree · 1) ++ (all .oSem ++ all .wDone)))))))))

/-- Followed from the former, the body's instructions lead to the latter. -/
theorem follow_prog : (match follow prog initToks with | some l => l.isPerm finToks | none => false) = true := by decide +kernel

/-- The body, from the one to the other. -/
theorem run_prog (K : Cells → ℕ) (c : Dev nD) (Q : PUnit → sProp 𝕄) :
    iprop(records m K ∗ dens m c initToks ∗ owesW c (debt c prog))
      ⊢ iprop((iprop(dens m c finToks ∗ owesW c 0) -∗ Q ⟨⟩) -∗ wpc c (runAll c prog) Q) := by
  have h := follow_prog
  cases hf : follow prog initToks with
  | none => rw [hf] at h; exact absurd h (by simp)
  | some l =>
    rw [hf] at h
    rw [← dens_perm m c (List.isPerm_iff.mp h)]
    exact run_follow m K c prog initToks l hf Q

end Cert.RS
-- ==== Proof.Pieces.lean ====
/-
  The whole buffers as pieces.  A device's buffers, counters, positions and duties make the pieces the body starts
  from (`dens_init`); the pieces it ends with make the buffers again, with the result in place (`dens_fin`).
-/
module

public import proofs.«01_k».proof.Proof.Body

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Disjoint parts that cover a buffer -/

section Parts
variable {T : Type} [Fintype T] [DecidableEq T] {ℓ : Loc nD τ sig} (K : T → Finset (Idx ℓ))
  (hd : ∀ t t', t ≠ t' → Disjoint (K t) (K t')) (hc : ∀ i, ∃ t, i ∈ K t)

omit [FloatOps F] in
/-- Parts that cover every index are everything. -/
theorem parts_univ (hc : ∀ i, ∃ t, i ∈ K t) : (Finset.univ.biUnion K) = (Finset.univ : Finset (Idx ℓ)) := by
  ext i; simp only [Finset.mem_biUnion, Finset.mem_univ, true_and, iff_true]; exact hc i

include hd hc in
omit [FloatOps F] in
/-- The buffer is its parts. -/
theorem parts_eq (f : Buf (Elt F) ℓ) :
    (iprop(ℓ ↦{fullShare} f) : sProp 𝕄) = bigSep Finset.univ fun t => ℓ ↦[K t]{fullShare} f := by
  rw [← pointsTo_biUnion Finset.univ K fun t _ t' _ h => hd t t' h, parts_univ K hc]

include hd hc in
omit [FloatOps F] in
/-- Split, with contents not said. -/
theorem parts_split : iprop(∃ f : Buf (Elt F) ℓ, ℓ ↦{fullShare} f) ⊢ (bigSep Finset.univ fun t => iprop(∃ f : Buf (Elt F) ℓ, ℓ ↦[K t]{fullShare} f) : sProp 𝕄) := by
  iintro ⟨%f, H⟩
  ihave H := (Entails.of_eq (parts_eq (F := F) K hd hc f)) $$ H
  have h : (bigSep Finset.univ fun t => (ℓ ↦[K t]{fullShare} f : sProp 𝕄)) ⊢ bigSep Finset.univ fun t => iprop(∃ f : Buf (Elt F) ℓ, ℓ ↦[K t]{fullShare} f) :=
    bigSep_mono fun t _ => by
      have h : (ℓ ↦[K t]{fullShare} f : sProp 𝕄) ⊢ iprop(∃ f : Buf (Elt F) ℓ, ℓ ↦[K t]{fullShare} f) := by iintro H; iexists f; iexact H
      exact h
  iapply h; iexact H

include hd hc in
omit [FloatOps F] in
/-- Put together, with contents not said. -/
theorem parts_join (f₀ : Buf (Elt F) ℓ) : (bigSep Finset.univ fun t => iprop(∃ f : Buf (Elt F) ℓ, ℓ ↦[K t]{fullShare} f) : sProp 𝕄) ⊢ iprop(∃ f : Buf (Elt F) ℓ, ℓ ↦{fullShare} f) := by
  haveI : Nonempty (Buf (Elt F) ℓ) := ⟨f₀⟩
  iintro H
  ihave H := (BI.bigSep_exists_pi Finset.univ (fun (t : T) (f : Buf (Elt F) ℓ) => (ℓ ↦[K t]{fullShare} f : sProp 𝕄))) $$ H
  icases H with ⟨%fs, H⟩
  ihave H := (pointsTo_biUnion_join Finset.univ K fs f₀ fun t _ t' _ h => hd t t' h) $$ H
  icases H with ⟨%g, -, H⟩
  iexists g
  rw [parts_univ K hc]; iexact H
end Parts

/-- Pages numbered along `p`. -/
theorem pg_disj {n A B : Nat} {T : Type} {p : T → Nat} (hp : ∀ t t', p t = p t' → t = t') :
    ∀ t t', t ≠ t' → Disjoint (pg (p t) : Finset (⟨3, ![n, A, B]⟩ : Shape).Idx) (pg (p t')) := fun t t' h =>
  Finset.disjoint_left.mpr fun i h1 h2 => h (hp t t' ((mem_pg.mp h1).symm.trans (mem_pg.mp h2)))
/-- Pages cover the buffer. -/
theorem pg_cover {n A B : Nat} {T : Type} {p : T → Nat} (hp : ∀ j : Fin n, ∃ t, p t = j.val) :
    ∀ i : (⟨3, ![n, A, B]⟩ : Shape).Idx, ∃ t, i ∈ (pg (p t) : Finset (⟨3, ![n, A, B]⟩ : Shape).Idx) := fun i =>
  let ⟨t, ht⟩ := hp ⟨(i 0).val, (i 0).isLt⟩; ⟨t, mem_pg.mpr ht.symm⟩
/-- The halves of the output slots. -/
theorem hf_disj : ∀ t t' : Fin 2 × Fin 4, t ≠ t' → Disjoint (hf t.2.val t.1.val : Finset S4x512x1024.Idx) (hf t'.2.val t'.1.val) := fun t t' h =>
  Finset.disjoint_left.mpr fun i h1 h2 => h (Prod.ext (Fin.ext ((mem_hf.mp h1).2.symm.trans (mem_hf.mp h2).2)) (Fin.ext ((mem_hf.mp h1).1.symm.trans (mem_hf.mp h2).1)))
/-- Halves of slots cover the output buffer. -/
theorem hf_cover : ∀ i : S4x512x1024.Idx, ∃ t : Fin 2 × Fin 4, i ∈ (hf t.2.val t.1.val : Finset S4x512x1024.Idx) := fun i =>
  ⟨(⟨(i 1).val / 256, by have h : (i 1).val < 512 := (i 1).isLt; omega⟩, ⟨(i 0).val, (i 0).isLt⟩), mem_hf.mpr ⟨rfl, rfl⟩⟩
/-- The blocks of the output. -/
theorem ob2_inj : ∀ (c : Dev nD) (t t' : Fin 16), ob2 c t = ob2 c t' → t = t' := by decide +kernel
/-- Every block of the result is written. -/
theorem ob2_sur : ∀ (c : Dev nD) (j : Fin 16), ∃ t : Fin 16, ob2 c t = j.val := by decide +kernel
/-- The blocks of the result do not meet. -/
theorem blk_disj (c : Dev nD) : ∀ t t' : Fin 16, t ≠ t' → Disjoint (blk (ob2 c t) : Finset S8192x1024.Idx) (blk (ob2 c t')) := fun t t' h =>
  Finset.disjoint_left.mpr fun i h1 h2 => h (ob2_inj c t t' ((mem_blk.mp h1).symm.trans (mem_blk.mp h2)))
/-- The blocks cover the result. -/
theorem blk_cover (c : Dev nD) : ∀ i : S8192x1024.Idx, ∃ t : Fin 16, i ∈ (blk (ob2 c t) : Finset S8192x1024.Idx) := fun i =>
  let ⟨t, ht⟩ := ob2_sur c ⟨(i 0).val / 512, by have h : (i 0).val < 8192 := (i 0).isLt; omega⟩; ⟨t, mem_blk.mpr ht.symm⟩
/-- The chunks a device receives are all its chunks. -/
theorem jr_inj : ∀ (c : Dev nD) (t t' : Fin 32), jr t.val c.val = jr t'.val c.val → t = t' := by decide +kernel
/-- Every chunk of `rbuf` is some slot's. -/
theorem jr_sur : ∀ (c : Dev nD) (j : Fin 32), ∃ t : Fin 32, jr t.val c.val = j.val := by decide +kernel
/-- Numbers below `n` with one value are one. -/
theorem val_inj {n : Nat} : ∀ t t' : Fin n, t.val = t'.val → t = t' := fun _ _ => Fin.ext
/-- Every number below `n` is a value. -/
theorem val_sur {n : Nat} : ∀ j : Fin n, ∃ t : Fin n, t.val = j.val := fun j => ⟨j, rfl⟩

/-- The parts of each buffer. -/
abbrev kR (c : Dev nD) : Fin 32 → Finset (Idx ((c : Thread nD τ).loc cc0_scratch0)) := fun a => (pg (jr a.val c.val) : Finset S32x256x1024.Idx)
/-- The pieces of the send buffer, -/
abbrev kY (c : Dev nD) : Fin 12 → Finset (Idx ((c : Thread nD τ).loc cc0_scratch1)) := fun a => (pg a.val : Finset S12x256x1024.Idx)
/-- of the staging buffer of what is sent, -/
abbrev kS (c : Dev nD) : Fin 2 → Finset (Idx ((c : Thread nD τ).loc cc0_scratch2)) := fun a => (pg a.val : Finset S2x512x1024.Idx)
/-- of the staging buffer of what is kept, -/
abbrev kK (c : Dev nD) : Fin 2 → Finset (Idx ((c : Thread nD τ).loc cc0_scratch3)) := fun a => (pg a.val : Finset S2x512x1024.Idx)
/-- of the output buffer, -/
abbrev kO (c : Dev nD) : Fin 2 × Fin 4 → Finset (Idx ((c : Thread nD τ).loc cc0_scratch4)) := fun t => (hf t.2.val t.1.val : Finset S4x512x1024.Idx)
/-- and of the result. -/
abbrev kW (c : Dev nD) : Fin 16 → Finset (Idx ((c : Thread nD τ).loc main_v1)) := fun t => (blk (ob2 c t) : Finset S8192x1024.Idx)

/-! ## Each buffer -/

section Bufs
variable (c : Dev nD)

omit [FloatOps F] in
/-- A family over two indices is its two members. -/
theorem bigSep_fin2 (Φ : Fin 2 → sProp 𝕄) : bigSep Finset.univ Φ = iprop(Φ 0 ∗ Φ 1) := bigSep_univ_eq_bigSepL [0, 1] (by decide) (by decide) Φ

omit [FloatOps F] in
/-- The received chunks' buffer, handed out: to each neighbour the chunks it fills. -/
theorem gifts_split : iprop(∃ f : Buf (Elt F) ((c : Thread nD τ).loc cc0_scratch0), ((c : Thread nD τ).loc cc0_scratch0) ↦{fullShare} f)
    ⊢ (bigSep Finset.univ fun k : Fin 3 => barPay (F := F) (nbr k c) k : sProp 𝕄) := by
  refine (parts_split (F := F) (kR c) (pg_disj (jr_inj c)) (pg_cover (jr_sur c))).trans (Entails.of_eq ?_)
  refine Eq.trans ?_ (bigSep_congr fun k _ => ?_ : (bigSep Finset.univ fun k : Fin 3 => bigSep (Finset.univ.filter fun a : Fin 32 => axis a = k) fun a =>
    iprop(∃ f, rbP (F := F) c (jr a.val c.val) fullShare f)) = _)
  · rw [bigSep_fiberwise Finset.univ axis, show (Finset.univ : Finset (Fin 32)).image axis = Finset.univ from by decide]
    rfl
  · unfold barPay
    refine bigSep_congr fun a ha => ?_
    unfold dstTok
    have e : nbr (axis a) (nbr k c) = c := by rw [(Finset.mem_filter.mp ha).2, nbr_nbr]
    rw [e]

/-- The shares of all arrived chunks are the whole `rbuf`. -/
theorem rb_join : (bigSep Finset.univ fun a : Fin 32 => iprop(rbP (F := F) c (jr a.val c.val) (pcs 0) (RB m c) ∗ rbP c (jr a.val c.val) (pcs 1) (RB m c) ∗ rbP c (jr a.val c.val) (pcs 2) (RB m c)))
    ⊢ (iprop(((c : Thread nD τ).loc cc0_scratch0) ↦{fullShare} RB m c) : sProp 𝕄) := by
  rw [parts_eq (F := F) (kR c) (pg_disj (jr_inj c)) (pg_cover (jr_sur c))]
  exact bigSep_mono fun a _ => (rb_shares c (jr a.val c.val) (RB m c)).2

omit [FloatOps F] in
/-- The input is the four shares that the staging slots read with. -/
theorem x_shares : (iprop(((c : Thread nD τ).loc main_arg0) ↦{fullShare} m ((c : Thread nD τ).loc main_arg0)) : sProp 𝕄)
    ⊣⊢ iprop((xP m c (xsh 0 0) Finset.univ ∗ xP m c (xsh 0 1) Finset.univ) ∗ (xP m c (xsh 1 0) Finset.univ ∗ xP m c (xsh 1 1) Finset.univ)) := by
  unfold xP
  exact (pointsTo_share (PosShare.mem_left_op_right fullShare)).trans
    (sep_congr (pointsTo_share (PosShare.mem_left_op_right fullShare.left)) (pointsTo_share (PosShare.mem_left_op_right fullShare.right)))
end Bufs

/-! ## The start -/

/-- The counters of the local transfers, at zero. -/
def locals (c : Dev nD) : sProp 𝕄 :=
  iprop((bigSep Finset.univ fun s : Fin 2 => semVal ((c : Thread nD τ), .dma (ssS s)) 0)
    ∗ (bigSep Finset.univ fun s : Fin 2 => semVal ((c : Thread nD τ), .dma (ssK s)) 0)
    ∗ (bigSep Finset.univ fun s : Fin 4 => semVal ((c : Thread nD τ), .dma (ssO s)) 0))
/-- A device's own positions. -/
def poss (c : Dev nD) : sProp 𝕄 :=
  iprop(pos (F := F) (barC c) ∗ (bigSep Finset.univ fun a : Fin 32 => pos (F := F) (sendC c a)) ∗ (bigSep Finset.univ fun a : Fin 32 => pos (F := F) (recvC c a)))
/-- The duties it pays. -/
def payToks (c : Dev nD) : sProp 𝕄 :=
  iprop((bigSep Finset.univ fun k : Fin 3 => dutyTok EB (barC (nbr k c)) 0 k)
    ∗ (bigSep Finset.univ fun a : Fin 32 => dutyTok EB (sendC c a) 0 0) ∗ (bigSep Finset.univ fun a : Fin 32 => dutyTok EB (recvC (nbr (axis a) c) a) 0 0))
/-- The credit of its waits on what others send. -/
def creds (c : Dev nD) : sProp 𝕄 :=
  iprop(cred (tallyAt (barC c) () 3) ∗ bigSep Finset.univ fun a : Fin 32 => cred (tallyAt (recvC c a) () N))
/-- The scratch buffers, contents not said. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What a device has at the start is the state of the first list of pieces. -/
theorem dens_init (c : Dev nD) :
    iprop(scr (F := F) c ∗ (((c : Thread nD τ).loc main_arg0) ↦{fullShare} m ((c : Thread nD τ).loc main_arg0))
        ∗ (((c : Thread nD τ).loc main_v1) ↦{fullShare} m ((c : Thread nD τ).loc main_v1)) ∗ locals c ∗ poss c ∗ payToks c ∗ creds c)
      ⊢ dens m c initToks := by
  unfold initToks scr locals poss payToks creds
  simp only [dens_append, dens_all, dens_cons, dens_nil]
  simp only [den, bigSep_sep']
  rw [bigSep_fin2, bigSep_fin2]
  iintro ⟨⟨H0, H1, H2, H3, H4⟩, Hx, Ho, ⟨⟨HS0, HS1⟩, ⟨HK0, HK1⟩, HO⟩, ⟨HpB, HpS, HpR⟩, ⟨HdB, HdS, HdR⟩, HcB, HcR⟩
  ihave Hx := (x_shares m c).1 $$ Hx
  icases Hx with ⟨⟨X0, X1⟩, X2, X3⟩
  ihave H0 := (gifts_split (F := F) c) $$ H0
  ihave H1 := (parts_split (F := F) (kY c) (pg_disj val_inj) (pg_cover val_sur)) $$ H1
  ihave H2 := (parts_split (F := F) (kS c) (pg_disj val_inj) (pg_cover val_sur)) $$ H2
  ihave H3 := (parts_split (F := F) (kK c) (pg_disj val_inj) (pg_cover val_sur)) $$ H3
  ihave H4 := (parts_split (F := F) (kO c) hf_disj hf_cover) $$ H4
  ihave H2 := (Entails.of_eq (bigSep_fin2 _)) $$ H2
  ihave H3 := (Entails.of_eq (bigSep_fin2 _)) $$ H3
  ihave H4 := (Entails.of_eq ((bigSep_univ_prod _).trans (bigSep_fin2 _))) $$ H4
  icases H2 with ⟨S0, S1⟩
  icases H3 with ⟨K0, K1⟩
  icases H4 with ⟨O0, O1⟩
  ihave Ho := (show iprop(((c : Thread nD τ).loc main_v1) ↦{fullShare} m ((c : Thread nD τ).loc main_v1)) ⊢ iprop(∃ f : Buf (Elt F) ((c : Thread nD τ).loc main_v1), ((c : Thread nD τ).loc main_v1) ↦{fullShare} f) by
    iintro H; iexists _; iexact H) $$ Ho
  ihave Ho := (parts_split (F := F) (kW c) (blk_disj c) (blk_cover c)) $$ Ho
  isplitl [S0 S1 K0 K1 X0 X1 X2 X3 HS0 HS1 HK0 HK1 HpB HcB]
  · isplitl [S0 X0 HS0]
    · isplitl [S0]; · iexact S0
      isplitl [X0] <;> iassumption
    isplitl [S1 X1 HS1]
    · isplitl [S1]; · iexact S1
      isplitl [X1] <;> iassumption
    isplitl [K0 X2 HK0]
    · isplitl [K0]; · iexact K0
      isplitl [X2] <;> iassumption
    isplitl [K1 X3 HK1]
    · isplitl [K1]; · iexact K1
      isplitl [X3] <;> iassumption
    isplitl [HpB HcB]
    · isplitl [HpB] <;> iassumption
    iempintro
  isplitl [H0]; · iexact H0
  isplitl [HdB]; · iexact HdB
  isplitl [H1]; · iexact H1
  isplitl [HpR HcR]
  · isplitl [HpR] <;> iassumption
  isplitl [HpS]; · iexact HpS
  isplitl [HdS HdR]
  · isplitl [HdS] <;> iassumption
  isplitl [O0]; · iexact O0
  isplitl [O1]; · iexact O1
  isplitl [HO]; · iexact HO
  iexact Ho

/-! ## The end -/

/-- The state of the last list is what it has to have at the end. -/
theorem dens_fin (c : Dev nD) :
    dens m c finToks ⊢ iprop(scr (F := F) c ∗ (((c : Thread nD τ).loc main_arg0) ↦{fullShare} m ((c : Thread nD τ).loc main_arg0))
        ∗ (((c : Thread nD τ).loc main_v1) ↦{fullShare} OUT m c) ∗ locals c
        ∗ semVal (barC c) 0 ∗ (bigSep Finset.univ fun a : Fin 32 => semVal (sendC c a) 0) ∗ (bigSep Finset.univ fun a : Fin 32 => semVal (recvC c a) 0)) := by
  unfold finToks scr locals
  simp only [dens_append, dens_all, dens_cons, dens_nil]
  simp only [den]
  have e : sl2 (4 : Fin 6) = 0 ∧ sl2 (5 : Fin 6) = 1 ∧ sl2 (14 : Fin 16) = 0 ∧ sl2 (15 : Fin 16) = 1 := by decide
  rw [bigSep_fin2, bigSep_fin2, e.1, e.2.1, e.2.2.1, e.2.2.2]
  unfold ssP skP
  iintro ⟨⟨⟨S0, X0, HS0⟩, ⟨S1, X1, HS1⟩, ⟨K0, X2, HK0⟩, ⟨K1, X3, HK1⟩, HB, -⟩, HY, P0, P1, P2, HR, HS, O0, O1, HO, HW⟩
  isplitl [S0 S1 K0 K1 HY P0 P1 P2 O0 O1]
  · isplitl [P0 P1 P2]
    · iexists (RB m c)
      iapply (rb_join m c)
      simp only [bigSep_sep']
      isplitl [P0]; · iexact P0
      isplitl [P1] <;> iassumption
    isplitl [HY]
    · iexists (YS m c)
      rw [parts_eq (F := F) (kY c) (pg_disj val_inj) (pg_cover val_sur)]
      iexact HY
    isplitl [S0 S1]
    · iapply (parts_join (F := F) (kS c) (pg_disj val_inj) (pg_cover val_sur) (STS m c 4))
      rw [bigSep_fin2]
      isplitl [S0]
      · iexists (STS m c 4); iexact S0
      · iexists (STS m c 5); iexact S1
    isplitl [K0 K1]
    · iapply (parts_join (F := F) (kK c) (pg_disj val_inj) (pg_cover val_sur) (STK m c 14))
      rw [bigSep_fin2]
      isplitl [K0]
      · iexists (STK m c 14); iexact K0
      · iexists (STK m c 15); iexact K1
    iapply (parts_join (F := F) (kO c) hf_disj hf_cover (OB m c 0))
    rw [bigSep_univ_prod, bigSep_fin2]
    isplitl [O0]; · iexact O0
    iexact O1
  isplitl [X0 X1 X2 X3]
  · iapply (x_shares m c).2
    isplitl [X0 X1]
    · isplitl [X0]; · iexact X0
      iexact X1
    isplitl [X2]; · iexact X2
    iexact X3
  isplitl [HW]
  · rw [parts_eq (F := F) (kW c) (blk_disj c) (blk_cover c)]
    iexact HW
  isplitl [HS0 HS1 HK0 HK1 HO]
  · isplitl [HS0 HS1]
    · isplitl [HS0]; · iexact HS0
      iexact HS1
    isplitl [HK0 HK1]
    · isplitl [HK0]; · iexact HK0
      iexact HK1
    iexact HO
  isplitl [HB]; · iexact HB
  isplitl [HS]; · iexact HS
  iexact HR

end Cert.RS
-- ==== Proof.Launch.lean ====
/-
  The launch.  The body's obligation; the cells and their duties set up and dealt to the devices that pay them; the
  launch's credit; and the run of the whole program, `run_main`: it ends, with the result in place on every device,
  its input as it was, and every counter at zero.
-/
module

public import proofs.«01_k».proof.Proof.Pieces
public import Idealize.ShloMosaic.Lib.Pipeline.CollectiveSegs

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The semaphores -/

/-- The kernel's own semaphores: the local transfers', then the send and the receive cells'. -/
abbrev Ow : Type := (Fin 2 ⊕ (Fin 2 ⊕ Fin 4)) ⊕ (Fin 32 ⊕ Fin 32)
/-- The kernel's own semaphores. -/
def osem : Ow → SemLoc sig
  | .inl (.inl s) => .dma (ssS s) | .inl (.inr (.inl s)) => .dma (ssK s) | .inl (.inr (.inr s)) => .dma (ssO s)
  | .inr (.inl a) => .dma (sSend a) | .inr (.inr a) => .dma (sRecv a)

/-- They are all of the kernel's own semaphores, each once. -/
theorem ownSemFacts : Pipeline.OwnSemFacts cfg0.spec osem := by decide +kernel

omit [FloatOps F] in
/-- The kernel's own counters at zero: the local ones, the sends' and the arrivals'. -/
theorem ownSems0_eq (c : Dev nD) : (Pipeline.ownSems0 (Ix := Unit) (Name := ℕ) (U := UU) (Lvl := ℕ) (Val := Elt F) (τ := τ) osem c : sProp 𝕄)
    = iprop(locals c ∗ (bigSep Finset.univ fun a : Fin 32 => semVal (sendC c a) 0) ∗ (bigSep Finset.univ fun a : Fin 32 => semVal (recvC c a) 0)) := by
  unfold Pipeline.ownSems0 locals
  rw [BI.bigSep_univ_sum, BI.bigSep_univ_sum, BI.bigSep_univ_sum, BI.bigSep_univ_sum]
  rfl
omit [FloatOps F] in
/-- The one counter beside them is the barrier's. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-! ## The body's obligation -/

/-- What a device starts with: the cells' records, its positions, duties and credits, and its two arrays. -/
def start (c : Dev nD) : sProp 𝕄 :=
  iprop((∃ K, records m K) ∗ (((c : Thread nD τ).loc main_arg0) ↦{fullShare} m ((c : Thread nD τ).loc main_arg0))
        ∗ (((c : Thread nD τ).loc main_v1) ↦{fullShare} m ((c : Thread nD τ).loc main_v1)) ∗ locals c ∗ poss c ∗ payToks c ∗ creds c)
/-- What it has to itself at the end, the scratch buffers and own semaphores apart. -/
def done (c : Dev nD) : sProp 𝕄 :=
  iprop(unscopedSems0 c ∗ (((c : Thread nD τ).loc main_arg0) ↦{fullShare} m ((c : Thread nD τ).loc main_arg0))
    ∗ (((c : Thread nD τ).loc main_v1) ↦{fullShare} OUT m c))

/-- The call's proof data: no window, and what the device holds before and after its one point. -/
def dats : (p : Fin 1) → (c : Dev nD) → Dat τ (Elt F) Unit ℕ UU ℕ (cfgs p) c := fun p c => match p with
  | ⟨0, _⟩ =>
    { A := fun w => w.elim0
      after := fun w => w.elim0
      Φ := fun t => match t with
        | ⟨0, _⟩ => iprop(start m c ∗ scr c)
        | ⟨_ + 1, _⟩ => iprop(done m c ∗ Pipeline.ownSems0 osem c ∗ scr c)
      q := fun _ => fullShare
      owed := fun t => match t with
        | ⟨0, _⟩ => debt c prog
        | ⟨_ + 1, _⟩ => 0 }

/-- From what a device has at the start its body ends with what it has to have at the end, owing nothing. -/
theorem wp_body (c : Dev nD) (Q : PUnit → sProp 𝕄) :
    iprop(start m c ∗ scr c ∗ owesW c (debt c prog)) ⊢ iprop((iprop((done m c ∗ Pipeline.ownSems0 osem c ∗ scr c) ∗ owesW c 0) -∗ Q ⟨⟩) -∗
      wpc c (Prog.lift .deviceId >>= fun d => runAll d prog) Q) := by
  unfold wpc
  simp only [Prog.lift, Prog.bind_op, Prog.bind_ret, wp_deviceId]
  unfold start done
  iintro ⟨⟨⟨%K, Hrec⟩, Hst⟩, Hscr, HO⟩ HK
  ihave Hd := (dens_init m c) $$ [Hst Hscr]
  · isplitl [Hscr] <;> iassumption
  iapply (run_prog m K c Q) $$ [Hrec Hd HO]
  · isplitl [Hrec]; · iexact Hrec
    isplitl [Hd] <;> iassumption
  iintro ⟨Hd, HO⟩
  ihave Hd := (dens_fin m c) $$ Hd
  icases Hd with ⟨Hscr, Hx, Ho, Hl, HB, HS, HR⟩
  iapply HK
  isplitr [HO]
  · rw [ownSems0_eq, unscopedSems0_eq]
    isplitl [HB Hx Ho]
    · isplitl [HB]; · iexact HB
      isplitl [Hx] <;> iassumption
    isplitl [Hl HS HR]
    · isplitl [Hl]; · iexact Hl
      isplitl [HS] <;> iassumption
    iexact Hscr
  · iexact HO

set_option maxRecDepth 20000 in
/-- The printed body meets the call's obligation. -/
theorem body_obligation (c : Dev nD) : BodyObligation (dats (F := F) m 0 c) (defs₀ (F := F)) 𝒱₀ () Set.univ := fun t => by
  rw [fin_N0 t]
  show iprop(iprop(start m c ∗ scr c) ∗ (dats m 0 c).owesAt () t0_0.castSucc ∗ bigSep (Finset.univ : Finset (Fin 0)) _) ⊢ wp frame (wpE (defs₀ (F := F)) 𝒱₀ c none) Set.univ
    (cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8 cc0_scratch9
      cc0_scratch10 cc0_scratch11 cc0_scratch12 cc0_scratch13)
      (fun _ => iprop(iprop(done m c ∗ Pipeline.ownSems0 osem c ∗ scr c) ∗ (dats m 0 c).owesAt () t0_0.succ ∗ bigSep (Finset.univ : Finset (Fin 0)) _))
  rw [body_eq]
  unfold Dat.owesAt Pipeline.owesWithin
  rw [show (dats m 0 c).owed t0_0.succ = 0 from rfl, show (dats m 0 c).owed t0_0.castSucc = debt c prog from rfl]
  iintro ⟨⟨Hst, Hscr⟩, ⟨%W, -, HO⟩, Hw⟩
  iapply (wp_body m c _) $$ [Hst Hscr HO]
  · isplitl [Hst]; · iexact Hst
    isplitl [Hscr]; · iexact Hscr
    unfold owesW; iexists W; iexact HO
  unfold owesW
  iintro ⟨Hd, ⟨%W', HO⟩⟩
  isplitl [Hd]; · iexact Hd
  isplitl [HO]
  · iexists W'
    isplitr; · ipureintro; exact fun _ _ => Or.inl trivial
    iexact HO
  · iexact Hw

/-! ## The cells set up -/

/-- Send semaphores of two slots differ, -/
theorem sSend_inj {a b : Fin 32} (h : (SemLoc.dma (sSend a) : SemLoc sig) = .dma (sSend b)) : a = b := by
  have e := congrArg ck h; rw [ck_send, ck_send] at e; exact CK.send.inj e
/-- and receive semaphores, -/
theorem sRecv_inj {a b : Fin 32} (h : (SemLoc.dma (sRecv a) : SemLoc sig) = .dma (sRecv b)) : a = b := by
  have e := congrArg ck h; rw [ck_recv, ck_recv] at e; exact CK.recv.inj e
/-- and a send semaphore is no receive semaphore. -/
theorem send_ne_recv {a b : Fin 32} (h : (SemLoc.dma (sSend a) : SemLoc sig) = .dma (sRecv b)) : False := by
  have e := congrArg ck h; rw [ck_send, ck_recv] at e; cases e

/-- The semaphore of a cell. -/
def csem : Unit ⊕ (Fin 32 ⊕ Fin 32) → SemLoc sig
  | .inl _ => .reg barS | .inr (.inl a) => .dma (sSend a) | .inr (.inr a) => .dma (sRecv a)
/-- A cell is a device and a semaphore. -/
theorem cell_eq (x : Cells) : cell x = ((x.1 : Thread nD τ), csem x.2) := by
  obtain ⟨c, _ | _ | _⟩ := x <;> rfl
/-- Different kinds of cell have different semaphores, -/
theorem csem_inj : Function.Injective csem := by
  rintro (u | a | a) (v | b | b) h
  · rfl
  · cases h
  · cases h
  · cases h
  · exact congrArg _ (congrArg _ (sSend_inj h))
  · exact (send_ne_recv h).elim
  · cases h
  · exact (send_ne_recv h.symm).elim
  · exact congrArg _ (congrArg _ (sRecv_inj h))
/-- so different indices are different cells. -/
theorem cell_inj : Function.Injective cell := by
  intro x y h
  rw [cell_eq, cell_eq] at h
  exact Prod.ext (congrArg (fun g : GSem nD τ sig => g.1.1) h) (csem_inj (congrArg Prod.snd h))
/-- All cells. -/
def ringCells : Finset (GSem nD τ sig) := Finset.univ.map ⟨cell, cell_inj⟩

/-- A device's own cells' duties: the three of its barrier cell, one of each send and receive cell. -/
abbrev TokIx : Type := Dev nD × (Fin 3 ⊕ (Fin 32 ⊕ Fin 32))
/-- The cell and number of a duty. -/
def tsem : Fin 3 ⊕ (Fin 32 ⊕ Fin 32) → (Unit ⊕ (Fin 32 ⊕ Fin 32)) × Fin 3
  | .inl k => (.inl (), k) | .inr x => (.inr x, 0)
/-- Duties differ in cell or number. -/
theorem tsem_inj : Function.Injective tsem := by
  rintro (k | x) (l | y) h
  · exact congrArg _ (congrArg Prod.snd h)
  · cases congrArg Prod.fst h
  · cases congrArg Prod.fst h
  · exact congrArg _ (Sum.inr.inj (congrArg Prod.fst h))
/-- A duty of a device's cell, in its first round. -/
def tokOf (x : TokIx) : GSem nD τ sig × ℕ × Fin 3 := (cell (x.1, (tsem x.2).1), 0, (tsem x.2).2)
/-- Different indices are different duties. -/
theorem tokOf_inj : Function.Injective tokOf := by
  intro x y h
  have h1 := cell_inj (a₁ := (x.1, (tsem x.2).1)) (a₂ := (y.1, (tsem y.2).1)) (congrArg Prod.fst h)
  exact Prod.ext (congrArg (fun z : Cells => z.1) h1) (tsem_inj (Prod.ext (congrArg (fun z : Cells => z.2) h1) (congrArg (fun z : GSem nD τ sig × ℕ × Fin 3 => z.2.2) h)))
/-- All duties. -/
def ringToks : Finset (GSem nD τ sig × ℕ × Fin 3) := Finset.univ.map ⟨tokOf, tokOf_inj⟩

/-- The resources at the launch. -/
def u₀ : UU := (initOf (Pipeline.cells cfgs cellOf_inj) (Pipeline.launchToks cfgs cellOf_inj), (initOf ringCells ringToks, 1))

/-- The duties of device `c`'s own cells. -/
def toks (c : Dev nD) : sProp 𝕄 :=
  iprop((bigSep Finset.univ fun k : Fin 3 => dutyTok EB (barC c) 0 k)
    ∗ (bigSep Finset.univ fun a : Fin 32 => dutyTok EB (sendC c a) 0 0) ∗ (bigSep Finset.univ fun a : Fin 32 => dutyTok EB (recvC c a) 0 0))

/-- The kinds of a device's cells. -/
abbrev CI : Type := Unit ⊕ (Fin 32 ⊕ Fin 32)

/-- What the launch deals device `c`, -/
def G (c : Dev nD) : sProp 𝕄 :=
  iprop((bigSep Finset.univ fun k : CI => roundState EB (rd m) (cell (c, k)) 0)
    ∗ (bigSep Finset.univ fun k : CI => pos (cell (c, k))) ∗ (bigSep Finset.univ fun k : CI => reached EB (cell (c, k)) 0) ∗ toks c)
/-- the records without the levels, -/
def recs (K : Cells → ℕ) : sProp 𝕄 :=
  iprop((bigSep Finset.univ fun x : Cells => cellInv EB (rd m) (K x) (cell x)) ∗ (bigSep Finset.univ fun x : Cells => reached EB (cell x) 0))
instance recs_pers (K : Cells → ℕ) : BI.Persistent (recs m K) := by unfold recs; infer_instance
/-- and what the devices together make of it. -/
def G' (c : Dev nD) : sProp 𝕄 := iprop((∃ K, recs m K) ∗ locals c ∗ poss c ∗ payToks c)

omit [FloatOps F] in
/-- A family over one index is its one member. -/
theorem bigSep_unit (Φ : Unit → sProp 𝕄) : bigSep Finset.univ Φ = Φ () := bigSep_singleton
omit [FloatOps F] in
/-- A family over a device's cells: the barrier's, the sends', the arrivals'. -/
theorem bigSep_CI (Φ : CI → sProp 𝕄) : bigSep Finset.univ Φ
    = iprop(Φ (.inl ()) ∗ (bigSep Finset.univ fun a : Fin 32 => Φ (.inr (.inl a))) ∗ (bigSep Finset.univ fun a : Fin 32 => Φ (.inr (.inr a)))) := by
  rw [BI.bigSep_univ_sum, BI.bigSep_univ_sum, bigSep_unit]; rfl

/-- The launch's resources deal every device its cells' rounds, positions and duties. -/
theorem fund_ring : BI.own (EB (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (cell (c, k)) := by
    unfold ringCells; rw [bigSep_map, bigSep_univ_prod]; rfl
  have hT : bigSep ringToks (fun x => (dutyTok EB x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, BI.bigSep_univ_sum]; rfl
  iintro HX
  imod (Rounds.fund EB (rd m) ringCells ringToks) $$ HX with ⟨Hst, Hr, Hat, Htok⟩
  imodintro
  ihave Hst' := (Entails.of_eq (hX fun g => roundState EB (rd m) g 0)) $$ Hst
  ihave Hat' := (Entails.of_eq (hX fun g => atPos EB g 0 ∅ 0)) $$ Hat
  ihave Hr' := (Entails.of_eq (hX fun g => reached EB g 0)) $$ Hr
  ihave Htok' := (Entails.of_eq hT) $$ Htok
  unfold G; simp only [bigSep_sep']
  isplitl [Hst']; · iexact Hst'
  isplitl [Hat']; · unfold pos; iexact Hat'
  isplitl [Hr']; · iexact Hr'
  iexact Htok'

/-- A device's counters at zero and its rounds become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv EB (rd m) κ (cell (c, k))))
          ∗ (bigSep Finset.univ fun k : CI => reached EB (cell (c, k)) 0) ∗ locals c ∗ poss c ∗ toks c) := by
  unfold G poss
  rw [ownSems0_eq, unscopedSems0_eq]
  iintro ⟨⟨Hl, HS, HR⟩, HB, Hst, Hat, Hr, Htok⟩
  imod (show iprop((bigSep Finset.univ fun k : CI => semVal (cell (c, k)) 0) ∗ bigSep Finset.univ fun k : CI => roundState EB (rd m) (cell (c, k)) 0)
      ⊢ (|={Set.univ}=> bigSep Finset.univ fun k => iprop(∃ κ : ℕ, cellInv EB (rd m) κ (cell (c, k))) : sProp 𝕄) from by
        rw [← bigSep_sep']
        exact (bigSep_mono fun k _ => (Rounds.body_intro EB (rd m) (cell (c, k))).trans inv_alloc).trans (bigSep_fupd _ _)) $$ [HS HR HB Hst] with Hinv
  · isplitr [Hst]
    · rw [bigSep_CI]
      isplitl [HB]; · iexact HB
      isplitl [HS]; · iexact HS
      iexact HR
    · iexact Hst
  imodintro
  isplitl [Hinv]; · iexact Hinv
  isplitl [Hr]; · iexact Hr
  isplitl [Hl]; · iexact Hl
  isplitl [Hat]
  · ihave Hat := (Entails.of_eq (bigSep_CI (F := F) fun k => pos (cell (c, k)))) $$ Hat
    iexact Hat
  iexact Htok

/-- Device and neighbour exchanged, for a slot whose axis is `p`. -/
def swapE {n : Nat} (p : Fin n → Fin 3) : Dev nD × Fin n ≃ Dev nD × Fin n where
  toFun x := (nbr (p x.2) x.1, x.2)
  invFun x := (nbr (p x.2) x.1, x.2)
  left_inv x := Prod.ext (nbr_nbr (p x.2) x.1) rfl
  right_inv x := Prod.ext (nbr_nbr (p x.2) x.1) rfl

omit [FloatOps F] in
/-- A family over devices and slots may be taken at the slots' neighbours. -/
theorem around {n : Nat} (p : Fin n → Fin 3) (Φ : Dev nD → Fin n → sProp 𝕄) :
    (bigSep Finset.univ fun c : Dev nD => bigSep Finset.univ fun a : Fin n => Φ c a)
      = bigSep Finset.univ fun c : Dev nD => bigSep Finset.univ fun a : Fin n => Φ (nbr (p a) c) a := by
  rw [← bigSep_univ_prod (fun x : Dev nD × Fin n => Φ x.1 x.2), bigSep_univ_equiv (swapE p), bigSep_univ_prod]
  rfl

omit [FloatOps F] in
/-- The duties dealt to the devices that pay them. -/
theorem toks_around : (bigSep Finset.univ fun c : Dev nD => (toks c : sProp 𝕄)) = bigSep Finset.univ fun c : Dev nD => payToks c := by
  unfold toks payToks
  simp only [bigSep_sep']
  rw [around (F := F) (fun k : Fin 3 => k) (fun c k => dutyTok EB (barC c) 0 k), around (F := F) axis (fun c a => dutyTok EB (recvC c a) 0 0)]

omit [FloatOps F] in
/-- A fact that can be copied serves every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have made is regrouped: every device gets all records and the duties it pays. -/
theorem regroup :
    (bigSep Finset.univ fun c : Dev nD => iprop((bigSep Finset.univ fun k : CI => iprop(∃ κ : ℕ, cellInv EB (rd m) κ (cell (c, k))))
          ∗ (bigSep Finset.univ fun k : CI => reached EB (cell (c, k)) 0) ∗ locals c ∗ poss c ∗ toks c) : sProp 𝕄)
      ⊢ bigSep Finset.univ (G' m) := by
  rw [bigSep_sep', bigSep_sep', bigSep_sep', bigSep_sep', toks_around, ← bigSep_univ_prod (fun x : Cells => iprop(∃ κ : ℕ, cellInv EB (rd m) κ (cell x))),
    ← bigSep_univ_prod (fun x : Cells => (reached EB (cell x) 0 : sProp 𝕄))]
  iintro ⟨HI, #HR, Hl, Hp, Htok⟩
  ihave HK := (BI.bigSep_exists_pi Finset.univ (fun (x : Cells) (κ : ℕ) => (cellInv EB (rd m) κ (cell x) : sProp 𝕄))) $$ HI
  icases HK with ⟨%K, #HI⟩
  iapply (bigSep_with_persistent (F := F) (R := recs m K) (Φ := fun c => iprop(locals c ∗ poss c ∗ payToks c)) fun c _ => by
    unfold G'
    iintro ⟨HR, Hc⟩
    isplitl [HR]
    · iexists K; iexact HR
    · iexact Hc)
  isplitr
  · unfold recs; isplitl; · iexact HI
    iexact HR
  · simp only [bigSep_sep']
    isplitl [Hl]; · iexact Hl
    isplitl [Hp] <;> iassumption

/-- The launch's set-up of all cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What an instruction owes, as a number: a signal's axis or a send's slot. -/
def owesIx : Ins → Option (Fin 3 ⊕ Fin 32)
  | .sig k => some (.inl k) | .sendY i => some (.inr (up i)) | .send a => some (.inr a) | _ => none
/-- What a debt is. -/
def owesAmt (c : Dev nD) : Fin 3 ⊕ Fin 32 → CellTallies nD τ sig Unit
  | .inl k => tallyAt (barC (nbr k c)) () 1
  | .inr a => tallyAt (recvC (nbr (axis a) c) a) () N

/-- A list's debt is the sum over its signals and sends. -/
theorem debt_map (c : Dev nD) : ∀ is : List Ins, debt c is = ((is.filterMap owesIx).map (owesAmt c)).sum
  | [] => rfl
  | i :: is => by
    rw [debt, debt_map c is]
    cases i <;> first | rfl | (simp only [due, List.filterMap_cons, owesIx, List.map_cons, List.sum_cons]; rw [add_comm]; rfl)

/-- The body signals every neighbour once and sends on every slot once. -/
theorem prog_owes : (prog.filterMap owesIx).Perm ((List.finRange 3).map .inl ++ (List.finRange 32).map .inr) := by decide +kernel

/-- What a device owes at the start. -/
theorem debt_prog (c : Dev nD) : debt c prog = (∑ k : Fin 3, tallyAt (barC (nbr k c)) () 1) + ∑ a : Fin 32, tallyAt (recvC (nbr (axis a) c) a) () N := by
  rw [debt_map, (prog_owes.map _).sum_eq, List.map_append, List.sum_append, List.map_map, List.map_map, Fin.sum_univ_def, Fin.sum_univ_def]
  rfl

/-- Being a neighbour goes both ways. -/
theorem nbr_iff (k : Fin 3) (c d : Dev nD) : c = nbr k d ↔ d = nbr k c :=
  ⟨fun h => by rw [h, nbr_nbr], fun h => by rw [h, nbr_nbr]⟩

/-- What device `d` owes `c`'s barrier. -/
theorem owed_bar (d c : Dev nD) : debt d prog (barC c) () = ∑ k : Fin 3, if d = nbr k c then 1 else 0 := by
  rw [debt_prog, Pi.add_apply, Finsupp.add_apply, Finset.sum_apply, Finset.sum_apply, Finsupp.finsetSum_apply, Finsupp.finsetSum_apply]
  rw [Finset.sum_eq_zero (s := (Finset.univ : Finset (Fin 32))) (fun a _ => by
    rw [tallyAt_ne_cell (fun h => by cases congrArg Prod.snd h)]; rfl), Nat.add_zero]
  refine Finset.sum_congr rfl fun k _ => ?_
  rw [tallyAt_apply]
  exact if_congr (Iff.trans ⟨fun h => congrArg (fun g : GSem nD τ sig => g.1.1) h.1, fun h => ⟨congrArg barC h, rfl⟩⟩ (nbr_iff k c d)) rfl rfl

/-- What device `d` owes `c`'s arrivals of a slot. -/
theorem owed_recv (d c : Dev nD) (b : Fin 32) : debt d prog (recvC c b) () = if d = nbr (axis b) c then N else 0 := by
  rw [debt_prog, Pi.add_apply, Finsupp.add_apply, Finset.sum_apply, Finset.sum_apply, Finsupp.finsetSum_apply, Finsupp.finsetSum_apply]
  rw [Finset.sum_eq_zero (s := (Finset.univ : Finset (Fin 3))) (fun a _ => by
    rw [tallyAt_ne_cell (fun h => by cases congrArg Prod.snd h)]; rfl), Nat.zero_add]
  rw [Finset.sum_eq_single b, tallyAt_apply]
  · exact if_congr (Iff.trans ⟨fun h => congrArg (fun g : GSem nD τ sig => g.1.1) h.1, fun h => ⟨congrArg (fun e => recvC e b) h, rfl⟩⟩ (nbr_iff (axis b) c d)) rfl rfl
  · intro a _ hab
    rw [tallyAt_ne_cell (fun h => hab (sRecv_inj (congrArg Prod.snd h)).symm)]; rfl
  · intro h; exact absurd (Finset.mem_univ _) h

/-- A device is credited three units of its barrier, -/
theorem launch_bar (c : Dev nD) :
    tallyOn (barC c) (launchCredit (Pipeline.owing fun d => debt d prog) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (nbr k c) fun _ => 1).trans (if_pos (Finset.mem_univ _))]
  rfl
/-- and a chunk's credit of each arrival. -/
theorem launch_recv (c : Dev nD) (a : Fin 32) :
    tallyOn (recvC c a) (launchCredit (Pipeline.owing fun d => debt d prog) 0 (recvC c a)) = (tallyAt (recvC c a) () N : CellTallies nD τ sig Unit) := by
  unfold tallyAt; refine congrArg _ (Finsupp.ext fun u => ?_); cases u
  rw [Pipeline.launchCredit_owing, Finsupp.single_eq_same, Finset.sum_congr rfl fun d _ => owed_recv d c a, Finset.sum_ite_eq' Finset.univ (nbr (axis a) c) fun _ => N,
    if_pos (Finset.mem_univ _)]

omit [FloatOps F] in
/-- The launch's credit is what the device waits with. -/
theorem creds_intro (c : Dev nD) : (Pipeline.launchCred (fun d => debt d prog) c : sProp 𝕄) ⊢ creds c := by
  unfold Pipeline.launchCred creds
  rw [bigSep_univ_at _ (SemLoc.reg barS), launch_bar]
  refine sep_mono_right ?_
  have hs : (Finset.univ.map ⟨fun a : Fin 32 => (SemLoc.dma (sRecv a) : SemLoc sig), fun _ _ h => sRecv_inj h⟩) ⊆ Finset.univ.erase (SemLoc.reg barS) := by
    intro x hx
    obtain ⟨a, -, rfl⟩ := Finset.mem_map.mp hx
    exact Finset.mem_erase.mpr ⟨(nomatch ·), Finset.mem_univ _⟩
  rw [← bigSep_congr (s := Finset.univ) fun (a : Fin 32) _ => congrArg cred (launch_recv c a)]
  exact (bigSep_subset hs).trans (Entails.of_eq (bigSep_map _))

/-! ## The theorem's side conditions -/

/-- What the launch gives a device is what it has at the start. -/
theorem start_intro (c : Dev nD) :
    iprop(Pipeline.unscopedRestP Pipeline.Prefetch.none cfg0.spec c (fun b => m ((c : Thread nD τ).loc b)) ∗ levAts L lv
        ∗ Pipeline.launchCred (fun d => debt d prog) c ∗ prngReg c (ρ c) ∗ G' m c)
      ⊢ |={Set.univ}=> iprop(start m c ∗ emp) := by
  rw [Pipeline.unscopedRestP_none, unscopedRest0_eq]
  unfold G' start
  iintro ⟨⟨Hx, Ho⟩, Hlev, Hcr, -, ⟨%K, HK⟩, Hl, Hp, Ht⟩
  ihave Hc := (creds_intro (F := F) c) $$ Hcr
  imodintro
  isplitl
  · isplitl [HK Hlev]
    · iexists K
      unfold records recs
      icases HK with ⟨H1, H2⟩
      isplitl [H1]; · iexact H1
      isplitl [H2] <;> iassumption
    isplitl [Hx]; · iexact Hx
    isplitl [Ho]; · iexact Ho
    isplitl [Hl]; · iexact Hl
    isplitl [Hp]; · iexact Hp
    isplitl [Ht] <;> iassumption
  · iempintro

/-- With the scratch buffers this is the state before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr c) from rfl, scopedRest0_eq]
  unfold scr
  iintro ⟨Hs, -, Hr⟩
  isplitl [Hs] <;> iassumption

/-- The state after the point gives the scratch buffers and the own counters back. -/
theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = iprop(done m c ∗ Pipeline.ownSems0 osem c ∗ scr c) from rfl, scopedRest0_eq]
  unfold scr
  iintro H
  iexact H

/-- The call has no window to share. -/
theorem share_eq (c : Dev nD) (w : Fin cfg0.W) : (dats m 0 c).share w = fullShare := w.elim0
/-- The call has no window to wait for. -/
theorem waits (c : Dev nD) : (levAts L lv : sProp 𝕄) ⊢ Pipeline.cellsWaits cfgs (dats m) () 0 c :=
  Pipeline.cellsWaits_intro cfgs (dats m) () 0 c fun w => w.elim0

/-! ## The run -/

/-- On every device the result is in place and the input as it was. -/
def QC : PUnit × MemSt nD τ sig (Elt F) → Prop := fun r =>
  ∀ c : Dev nD, r.2.mem ((c : Thread nD τ).loc main_v1) = OUT m c ∧ r.2.mem ((c : Thread nD τ).loc main_arg0) = m ((c : Thread nD τ).loc main_arg0)

/-- What a device holds at the end, read in the final memory: counters at zero, the result, the argument. -/
theorem done_read (c : Dev nD) (s' : Phys nD τ sig (Elt F)) :
    iprop(done m c ∗ emp ∗ SI s') ⊢ (|={Set.univ}=> iprop(⌜(∀ sm : SemLoc sig, sm.isScoped .tc = false → s'.mem.sem ((c.tc : Thread nD τ), sm) = 0)
        ∧ s'.mem.mem ((c : Thread nD τ).loc main_v1) = OUT m c ∧ s'.mem.mem ((c : Thread nD τ).loc main_arg0) = m ((c : Thread nD τ).loc main_arg0)⌝ ∗ SI s') : sProp 𝕄) := by
  unfold done
  iintro ⟨⟨Hu, Hx, Ho⟩, -, HSI⟩
  ihave H := (pointsTo_read_all ({()} : Finset Unit) (fun _ => (c : Thread nD τ).loc main_arg0) (fun _ => m ((c : Thread nD τ).loc main_arg0)) s') $$ [Hx HSI]
  · isplitl [Hx]
    · rw [bigSep_singleton]; iexact Hx
    · iexact HSI
  icases H with ⟨%hx, HSI⟩
  ihave H := (pointsTo_read_all ({()} : Finset Unit) (fun _ => (c : Thread nD τ).loc main_v1) (fun _ => OUT m c) s') $$ [Ho HSI]
  · isplitl [Ho]
    · rw [bigSep_singleton]; iexact Ho
    · iexact HSI
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, ho () (Finset.mem_singleton_self _), hx () (Finset.mem_singleton_self _)⟩
  · iexact HSI

set_option maxRecDepth 20000 in
/-- On the mesh of eight devices, for any float values, from any memory with the counters at zero: every weakly fair run
    of the kernel ends; on each device the result array then holds `OUT`, the input what it held, and every counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => debt d prog) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := phi1_exit m)
    (QY := fun c s => (∀ sm : SemLoc sig, sm.isScoped .tc = false → s.sem ((c.tc : Thread nD τ), sm) = 0)
        ∧ s.mem ((c : Thread nD τ).loc main_v1) = OUT m c ∧ s.mem ((c : Thread nD τ).loc main_arg0) = m ((c : Thread nD τ).loc main_arg0))
    (hY := done_read m)
    (hQ := fun _ h hs => ⟨fun c => (h c).2.2.2, sem_eq_zero hs fun c => (h c).2.2.1⟩)

end Cert.RS
-- ==== Proof.Ref.lean ====
/-
  The value.  What a device's result holds is its part of the reference's result: the sum of the two planes of the
  whole input, of which the device has one and its neighbours along `y` the other.
-/
module

public import proofs.«01_k».proof.Proof.Common
public import proofs.«01_k».proof.Proof.Gen.ReferenceIdeal.Run
public import Idealize.ShloMosaic.Lib.Layout
public import Idealize.ShloMosaic.Lib.IdealHost
public import Idealize.ShloMosaic.Lib.Pointwise.Reduce

@[expose] public section

set_option backward.proofsInPublic true

noncomputable section

namespace Cert.RS

open Cert.KernelIdeal Cert.KernelIdeal.Gen
open Idealize.ShloMosaic Idealize.ShloMosaic.TcCoe Idealize.SL.Sem

/-- The reference's result, as its run leaves it. -/
def refOut (w : FVec Ideal Cert.ReferenceIdeal.S2x8192x2048 .f32) : FVec Ideal Cert.ReferenceIdeal.S8192x2048 .bf16 :=
  truncf .bf16 (Host.reduceAdd (extf .f32 (truncf .bf16 w Cert.ReferenceIdeal.Gen.bitsLt_bf16_f32) Cert.ReferenceIdeal.Gen.bitsLt_bf16_f32)
    (constant Cert.ReferenceIdeal.S_ .f32 0x00000000#32) Cert.ReferenceIdeal.Gen.reducesTo_S2x8192x2048_S8192x2048_d0 Cert.ReferenceIdeal.Gen.h_S_) Cert.ReferenceIdeal.Gen.bitsLt_bf16_f32

/-- At an index it is the sum of the two planes. -/
theorem refOut_apply (w : FVec Ideal Cert.ReferenceIdeal.S2x8192x2048 .f32) (j : Cert.ReferenceIdeal.S8192x2048.Idx) :
    refOut w j = (w (ix3 (0 : Fin 2) (⟨(j 0).val, (j 0).isLt⟩ : Fin 8192) (⟨(j 1).val, (j 1).isLt⟩ : Fin 2048))
      + w (ix3 (1 : Fin 2) (⟨(j 0).val, (j 0).isLt⟩ : Fin 8192) (⟨(j 1).val, (j 1).isLt⟩ : Fin 2048)) : EReal) := by
  unfold refOut
  rw [ValueIdx.truncf_apply, ValueIdx.hostReduceAdd_apply, Ideal.hostReduceAdd_r3_a0, Fin.sum_univ_two]
  show Ideal.ofBits .f32 0x00000000#32 + _ = _
  rw [Ideal.ofBits_zero_f32, zero_add]
  rfl

variable (m : (ℓ : Loc nD τ sig) → Buf (Elt Ideal) ℓ) (w : FVec Ideal ⟨3, ![2, 8192, 2048]⟩ .f32)
  (hm : ∀ c : Dev nD, m ((c : Thread nD τ).loc main_arg0) = Layout.blockN ⟨3, ![1, 8192, 2048]⟩ ⟨3, ![2, 8192, 2048]⟩ (Layout.meshBlock [2, 2, 2] ![[1], [], []] c) w)

/-- A device's half is 0 or 1. -/
theorem hy_lt (c : Dev nD) : hy c < 2 := Nat.mod_lt _ (by decide)
/-- A device's place along `y` is its half. -/
theorem hy_block : ∀ c : Dev nD, Layout.meshLin [2, 2, 2] c.val [1] = hy c := by decide
/-- What reaches a device comes from one that has the other plane. -/
theorem hy_src : ∀ (c : Dev nD) (j : Fin 32), hy (srcDev c j.val) = 1 - hy c := by decide +kernel

include hm in
/-- A device's input is its plane of the whole input. -/
theorem Xf_eq (c : Dev nD) (r k : Nat) (hr : r < 8192) (hk : k < 2048) :
    Xf m c r k = w (ix3 (⟨hy c, hy_lt c⟩ : Fin 2) (⟨r, hr⟩ : Fin 8192) (⟨k, hk⟩ : Fin 2048)) := by
  unfold Xf
  rw [hm c, Layout.blockN_apply]
  refine congrArg w (funext fun a => Fin.ext ?_)
  rw [Layout.TilesN.idx_val, Layout.meshBlock_val]
  match a with
  | ⟨0, _⟩ =>
    show Layout.meshLin [2, 2, 2] c.val [1] * 1 + 0 = hy c
    rw [hy_block]; omega
  | ⟨1, _⟩ =>
    show 0 * 8192 + r % 8192 = r
    rw [Nat.mod_eq_of_lt hr]; omega
  | ⟨2, _⟩ =>
    show 0 * 2048 + k % 2048 = k
    rw [Nat.mod_eq_of_lt hk]; omega

include hm in
/-- The kernel's result on device `c` is the device's part of the reference's result. -/
theorem out_ref_eq (c : Dev nD) :
    OUT m c = Layout.blockN ⟨2, ![8192, 1024]⟩ ⟨2, ![8192, 2048]⟩ (Layout.meshBlock [2, 2, 2] ![[], [1]] c) (refOut w) := by
  funext i
  rw [Layout.blockN_apply, refOut_apply]
  have h0 : (i 0).val < 8192 := (i 0).isLt
  have h1 : (i 1).val < 1024 := (i 1).isLt
  have hc := hy_lt c
  have hk : 1024 * hy c + (i 1).val < 2048 := by omega
  show (Xf m c (i 0).val (1024 * hy c + (i 1).val)
    + Xf m (srcDev c ((i 0).val / 256)) (256 * ((i 0).val / 256) + (i 0).val % 256) (1024 * hy c + (i 1).val) : EReal) = _
  rw [Nat.div_add_mod, Xf_eq m w hm c _ _ h0 hk, Xf_eq m w hm _ _ _ h0 hk]
  have hs : hy (srcDev c ((i 0).val / 256)) = 1 - hy c := hy_src c ⟨(i 0).val / 256, by omega⟩
  have e0 : ∀ (h : Layout.TilesN ⟨2, ![8192, 1024]⟩ ⟨2, ![8192, 2048]⟩ fun b => Layout.cutSize [2, 2, 2] (![[], [1]] b)),
      (h.idx (Layout.meshBlock [2, 2, 2] ![[], [1]] c) i 0).val = (i 0).val := fun h => by
    rw [Layout.TilesN.idx_val, Layout.meshBlock_val]
    show 0 * 8192 + (i 0).val = _
    omega
  have e1 : ∀ (h : Layout.TilesN ⟨2, ![8192, 1024]⟩ ⟨2, ![8192, 2048]⟩ fun b => Layout.cutSize [2, 2, 2] (![[], [1]] b)),
      (h.idx (Layout.meshBlock [2, 2, 2] ![[], [1]] c) i 1).val = 1024 * hy c + (i 1).val := fun h => by
    rw [Layout.TilesN.idx_val, Layout.meshBlock_val]
    show Layout.meshLin [2, 2, 2] c.val [1] * 1024 + (i 1).val = _
    rw [hy_block, Nat.mul_comm]
  simp only [e0, e1, hs]
  have h2 : hy c = 0 ∨ hy c = 1 := by omega
  rcases h2 with h2 | h2
  · simp only [h2]; rfl
  · simp only [h2]; exact add_comm _ _

end Cert.RS
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The kernel at the machine's floats ends on every device with its argument unchanged and every counter at zero: the
    run, proved once for any float values, at the bits. -/
theorem frame_kernel : Cert.quiescent_Kernel := fun m ρ _ =>
  (θ_run Cert.KernelIdeal.defs _ _).mono (fun _ h => ⟨fun c => (h.1 c).2, h.2⟩) (Cert.RS.run_main (F := Bits) m ρ)

/-- The same of the kernel over the reals. -/
theorem frame_kernelIdeal : Cert.quiescent_KernelIdeal := fun m ρ _ =>
  (θ_run Cert.KernelIdeal.defs _ _).mono (fun _ h => ⟨fun c => (h.1 c).2, h.2⟩) (Cert.RS.run_main (F := Ideal) m ρ)

/-- The reference ends with its argument unchanged; it declares no semaphore, so no counter moves. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the reals, when every device starts with its plane of the whole input, every device ends with its columns of
    the reference's result, and both programs leave their arguments as they were. -/
theorem algebraic : Cert.algebraic_KernelIdeal_ReferenceIdeal := by
  intro m ρ m' ρ' _ hm
  refine ⟨Cert.RS.refOut (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨(h.1 c).1.trans (Cert.RS.out_ref_eq m _ hm c), (h.1 c).2⟩) (Cert.RS.run_main (F := Ideal) m ρ)
  · exact (θ_run Cert.ReferenceIdeal.defs _ _).mono (fun _ h => h 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
